-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x512x1000 : Shape := ⟨3, ![128, 512, 1000]⟩
abbrev S128x512 : Shape := ⟨2, ![128, 512]⟩
abbrev S1x128 : Shape := ⟨2, ![1, 128]⟩
abbrev S8x512x1000 : Shape := ⟨3, ![8, 512, 1000]⟩
abbrev S8 : Shape := ⟨1, ![8]⟩
abbrev S512x128 : Shape := ⟨2, ![512, 128]⟩
abbrev S512x1 : Shape := ⟨2, ![512, 1]⟩
abbrev S1 : Shape := ⟨1, ![1]⟩
abbrev S_ : Shape := ⟨0, ![]⟩
abbrev S1x512x1000 : Shape := ⟨3, ![1, 512, 1000]⟩
abbrev S512x1000 : Shape := ⟨2, ![512, 1000]⟩
abbrev S512 : Shape := ⟨1, ![512]⟩
abbrev S1x512x1 : Shape := ⟨3, ![1, 512, 1]⟩
abbrev S1x1x1 : Shape := ⟨3, ![1, 1, 1]⟩
abbrev S128x1 : Shape := ⟨2, ![128, 1]⟩

abbrev nBuf : Space → Nat
  | .hbm => 4
  | .vmem => 5
  | .smem => 0
  | _ => 0

abbrev bufTy : (tb : Table) → Fin (tcTables nBuf tb) → BufTy
  | .hbm, ⟨0, _⟩ => ⟨S128x512x1000, .f32⟩
  | .hbm, ⟨1, _⟩ => ⟨S128x512, .i32⟩
  | .hbm, ⟨2, _⟩ => ⟨S1x128, .f32⟩
  | .hbm, ⟨3, _⟩ => ⟨S128x1, .f32⟩
  | .local _ .vmem, ⟨0, _⟩ => ⟨S128x512, .i32⟩
  | .local _ .vmem, ⟨1, _⟩ => ⟨S1x128, .f32⟩
  | .local _ .vmem, ⟨2, _⟩ => ⟨S8x512x1000, .f32⟩
  | .local _ .vmem, ⟨3, _⟩ => ⟨S512x128, .i32⟩
  | .local _ .vmem, ⟨4, _⟩ => ⟨S512x1, .i32⟩
  | _, _ => ⟨S128x512x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 (c0_i32 : BitVec 32) : Fin 1 → Nat :=
  let c8_i32 : BitVec 32 := 8#32
  let v0 : BitVec 32 := Scalar.remsi c0_i32 c8_i32
  ![v0.toNat]
def k0_off2 (c0_i32 : BitVec 32) : Fin 3 → Nat :=
  let c8_i32 : BitVec 32 := 8#32
  let v0 : BitVec 32 := Scalar.remsi c0_i32 c8_i32
  let c0_i32_1 : BitVec 32 := 0#32
  let c0_i32_2 : BitVec 32 := 0#32
  ![v0.toNat, 0, 0]
@[reducible] def k0_t1_loop : Scf.Loop 32 :=
  let c0_i32_47 : BitVec 32 := 0#32
  let c128_i32 : BitVec 32 := 128#32
  let v60 : BitVec 32 := Scalar.addi c0_i32_47 c128_i32
  let c1_i32_48 : BitVec 32 := 1#32
  ⟨c0_i32_47, v60, c1_i32_48⟩
def k0_off3 (k0_t1 : Fin k0_t1_loop.trips) : Fin 1 → Nat :=
  let c0_i32_47 : BitVec 32 := 0#32
  let c1_i32_48 : BitVec 32 := 1#32
  let arg7 : BitVec 32 := Scf.iv c0_i32_47 c1_i32_48 k0_t1
  let c8_i32_199 : BitVec 32 := 8#32
  let v412 : BitVec 32 := Scalar.remsi arg7 c8_i32_199
  ![v412.toNat]
def k0_off4 (k0_t1 : Fin k0_t1_loop.trips) : Fin 3 → Nat :=
  let c0_i32_47 : BitVec 32 := 0#32
  let c1_i32_48 : BitVec 32 := 1#32
  let arg7 : BitVec 32 := Scf.iv c0_i32_47 c1_i32_48 k0_t1
  let c8_i32_199 : BitVec 32 := 8#32
  let v412 : BitVec 32 := Scalar.remsi arg7 c8_i32_199
  let c0_i32_200 : BitVec 32 := 0#32
  let c0_i32_201 : BitVec 32 := 0#32
  ![v412.toNat, 0, 0]
def k0_off5 (k0_t1 : Fin k0_t1_loop.trips) : Fin 3 → Nat :=
  let c0_i32_47 : BitVec 32 := 0#32
  let c1_i32_48 : BitVec 32 := 1#32
  let arg7 : BitVec 32 := Scf.iv c0_i32_47 c1_i32_48 k0_t1
  let c0_i32_202 : BitVec 32 := 0#32
  let c0_i32_203 : BitVec 32 := 0#32
  ![arg7.toNat, 0, 0]
def k0_off6 (k0_t1 : Fin k0_t1_loop.trips) : Fin 3 → Nat :=
  let c0_i32_47 : BitVec 32 := 0#32
  let c1_i32_48 : BitVec 32 := 1#32
  let arg7 : BitVec 32 := Scf.iv c0_i32_47 c1_i32_48 k0_t1
  let c8_i32_204 : BitVec 32 := 8#32
  let v419 : BitVec 32 := Scalar.remsi arg7 c8_i32_204
  let v420 : Index := Scalar.indexCast v419
  let c0_205 : Index := 0#32
  let c0_206 : Index := 0#32
  ![v420.toNat, 0, 0]
def k0_cond2 (k0_t1 : Fin k0_t1_loop.trips) : BitVec 1 :=
  let c0_i32_47 : BitVec 32 := 0#32
  let c1_i32_48 : BitVec 32 := 1#32
  let arg7 : BitVec 32 := Scf.iv c0_i32_47 c1_i32_48 k0_t1
  let c8_i32_226 : BitVec 32 := 8#32
  let v465 : BitVec 32 := Scalar.addi arg7 c8_i32_226
  let c128_i32_227 : BitVec 32 := 128#32
  let v466 : BitVec 1 := Scalar.cmpi .slt v465 c128_i32_227
  let v467 : BitVec 32 := Scalar.extui v466
  let c0_i32_228 : BitVec 32 := 0#32
  let v468 : BitVec 1 := Scalar.cmpi .ne v467 c0_i32_228
  v468

def k0_off7 (k0_t1 : Fin k0_t1_loop.trips) : Fin 1 → Nat :=
  let c0_i32_47 : BitVec 32 := 0#32
  let c1_i32_48 : BitVec 32 := 1#32
  let arg7 : BitVec 32 := Scf.iv c0_i32_47 c1_i32_48 k0_t1
  let c8_i32_231 : BitVec 32 := 8#32
  let v478 : BitVec 32 := Scalar.addi arg7 c8_i32_231
  let c8_i32_232 : BitVec 32 := 8#32
  let v479 : BitVec 32 := Scalar.remsi v478 c8_i32_232
  ![v479.toNat]
def k0_off8 (k0_t1 : Fin k0_t1_loop.trips) : Fin 3 → Nat :=
  let c0_i32_47 : BitVec 32 := 0#32
  let c1_i32_48 : BitVec 32 := 1#32
  let arg7 : BitVec 32 := Scf.iv c0_i32_47 c1_i32_48 k0_t1
  let c8_i32_231 : BitVec 32 := 8#32
  let v478 : BitVec 32 := Scalar.addi arg7 c8_i32_231
  let c8_i32_232 : BitVec 32 := 8#32
  let v479 : BitVec 32 := Scalar.remsi v478 c8_i32_232
  let c0_i32_233 : BitVec 32 := 0#32
  let c0_i32_234 : BitVec 32 := 0#32
  ![v479.toNat, 0, 0]
def k0_off9 (k0_t1 : Fin k0_t1_loop.trips) : Fin 3 → Nat :=
  let c0_i32_47 : BitVec 32 := 0#32
  let c1_i32_48 : BitVec 32 := 1#32
  let arg7 : BitVec 32 := Scf.iv c0_i32_47 c1_i32_48 k0_t1
  let c8_i32_231 : BitVec 32 := 8#32
  let v478 : BitVec 32 := Scalar.addi arg7 c8_i32_231
  let c0_i32_235 : BitVec 32 := 0#32
  let c0_i32_236 : BitVec 32 := 0#32
  ![v478.toNat, 0, 0]
abbrev stage0_0 : Fin 1 → Memref sig .tc .vmem S128x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S128x512x1000 : Shape := ⟨3, ![128, 512, 1000]⟩
abbrev S_ : Shape := ⟨0, ![]⟩
abbrev S128x512 : Shape := ⟨2, ![128, 512]⟩
abbrev S128 : Shape := ⟨1, ![128]⟩
abbrev S128x1 : Shape := ⟨2, ![128, 1]⟩
abbrev S128x511 : Shape := ⟨2, ![128, 511]⟩
abbrev S512 : Shape := ⟨1, ![512]⟩
abbrev S1x512 : Shape := ⟨2, ![1, 512]⟩
abbrev S128x512x1 : Shape := ⟨3, ![128, 512, 1]⟩
abbrev S1 : Shape := ⟨1, ![1]⟩
abbrev S1x1x1 : Shape := ⟨3, ![1, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S128x512x1000, .f32⟩
  | .hbm, ⟨1, _⟩ => ⟨S_, .f32⟩
  | .hbm, ⟨2, _⟩ => ⟨S128x512x1000, .f32⟩
  | .hbm, ⟨3, _⟩ => ⟨S128x512x1000, .f32⟩
  | .hbm, ⟨4, _⟩ => ⟨S128x512x1000, .f32⟩
  | .hbm, ⟨5, _⟩ => ⟨S128x512x1000, .i32⟩
  | .hbm, ⟨6, _⟩ => ⟨S_, .f32⟩
  | .hbm, ⟨7, _⟩ => ⟨S_, .i32⟩
  | .hbm, ⟨8, _⟩ => ⟨S128x512, .f32⟩
  | .hbm, ⟨9, _⟩ => ⟨S128x512, .i32⟩
  | .hbm, ⟨10, _⟩ => ⟨S_, .f32⟩
  | .hbm, ⟨11, _⟩ => ⟨S128x512, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S128x1, .f32⟩
  | .hbm, ⟨16, _⟩ => ⟨S_, .i32⟩
  | .hbm, ⟨17, _⟩ => ⟨S128x1, .i32⟩
  | .hbm, ⟨18, _⟩ => ⟨S128x511, .i32⟩
  | .hbm, ⟨19, _⟩ => ⟨S128x512, .i32⟩
  | .hbm, ⟨20, _⟩ => ⟨S128x512, .i1⟩
  | .hbm, ⟨21, _⟩ => ⟨S_, .i32⟩
  | .hbm, ⟨22, _⟩ => ⟨S128x512, .i32⟩
  | .hbm, ⟨23, _⟩ => ⟨S128x512, .i1⟩
  | .hbm, ⟨24, _⟩ => ⟨S128x512, .i1⟩
  | .hbm, ⟨25, _⟩ => ⟨S512, .i32⟩
  | .hbm, ⟨26, _⟩ => ⟨S1x512, .i32⟩
  | .hbm, ⟨27, _⟩ => ⟨S_, .i32⟩
  | .hbm, ⟨28, _⟩ => ⟨S_, .i32⟩
  | .hbm, ⟨29, _⟩ => ⟨S128x512, .i32⟩
  | .hbm, ⟨30, _⟩ => ⟨S128x512, .i32⟩
  | .hbm, ⟨31, _⟩ => ⟨S128x512, .i32⟩
  | .hbm, ⟨32, _⟩ => ⟨S128x512, .i32⟩
  | .hbm, ⟨33, _⟩ => ⟨S128x512, .i32⟩
  | .hbm, ⟨34, _⟩ => ⟨S128x512, .i32⟩
  | .hbm, ⟨35, _⟩ => ⟨S_, .i32⟩
  | .hbm, ⟨36, _⟩ => ⟨S_, .i32⟩
  | .hbm, ⟨37, _⟩ => ⟨S128x512, .i32⟩
  | .hbm, ⟨38, _⟩ => ⟨S128x512, .i32⟩
  | .hbm, ⟨39, _⟩ => ⟨S_, .i32⟩
  | .hbm, ⟨40, _⟩ => ⟨S128x512, .i32⟩
  | .hbm, ⟨41, _⟩ => ⟨S128x512, .i1⟩
  | .hbm, ⟨42, _⟩ => ⟨S_, .i32⟩
  | .hbm, ⟨43, _⟩ => ⟨S128x512, .i32⟩
  | .hbm, ⟨44, _⟩ => ⟨S128x512, .i32⟩
  | .hbm, ⟨45, _⟩ => ⟨S128x512, .i32⟩
  | .hbm, ⟨46, _⟩ => ⟨S128x512x1, .i32⟩
  | .hbm, ⟨47, _⟩ => ⟨S1, .i32⟩
  | .hbm, ⟨48, _⟩ => ⟨S_, .i32⟩
  | .hbm, ⟨49, _⟩ => ⟨S128x512x1, .i32⟩
  | .hbm, ⟨50, _⟩ => ⟨S128x512x1, .i1⟩
  | .hbm, ⟨51, _⟩ => ⟨S1x1x1, .i32⟩
  | .hbm, ⟨52, _⟩ => ⟨S128x512x1, .i32⟩
  | .hbm, ⟨53, _⟩ => ⟨S128x512x1, .i1⟩
  | .hbm, ⟨54, _⟩ => ⟨S128x512x1, .i1⟩
  | .hbm, ⟨55, _⟩ => ⟨S_, .i1⟩
  | .hbm, ⟨56, _⟩ => ⟨S128x512, .i1⟩
  | .hbm, ⟨57, _⟩ => ⟨S128x512, .i32⟩
  | .hbm, ⟨58, _⟩ => ⟨S_, .i32⟩
  | .hbm, ⟨59, _⟩ => ⟨S128x512, .i32⟩
  | .hbm, ⟨60, _⟩ => ⟨S128x512, .i32⟩
  | _, _ => ⟨S128x512x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_cst : Ref sig .tc := ⟨.hbm, 6, rfl⟩
abbrev main_call0_c : Ref sig .tc := ⟨.hbm, 7, rfl⟩
abbrev main_call0_v1_0 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v17 : Ref sig .tc := ⟨.hbm, 31, rfl⟩
abbrev main_call2_v0 : Ref sig .tc := ⟨.hbm, 32, rfl⟩
abbrev main_call2_v1_0 : Ref sig .tc := ⟨.hbm, 33, rfl⟩
abbrev main_v18 : Ref sig .tc := ⟨.hbm, 34, rfl⟩
abbrev main_c_4 : Ref sig .tc := ⟨.hbm, 35, rfl⟩
abbrev main_call3_v0 : Ref sig .tc := ⟨.hbm, 36, rfl⟩
abbrev main_call3_v1 : Ref sig .tc := ⟨.hbm, 37, rfl⟩
abbrev main_v19 : Ref sig .tc := ⟨.hbm, 38, rfl⟩
abbrev main_call4_c : Ref sig .tc := ⟨.hbm, 39, rfl⟩
abbrev main_call4_v0 : Ref sig .tc := ⟨.hbm, 40, rfl⟩
abbrev main_call4_v1 : Ref sig .tc := ⟨.hbm, 41, rfl⟩
abbrev main_call4_c_0 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_call4_v5 : Ref sig .tc := ⟨.hbm, 46, rfl⟩
abbrev main_call4_c_1 : Ref sig .tc := ⟨.hbm, 47, rfl⟩
abbrev main_call4_c_2 : Ref sig .tc := ⟨.hbm, 48, rfl⟩
abbrev main_call4_v6 : Ref sig .tc := ⟨.hbm, 49, rfl⟩
abbrev main_call4_v7 : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_v11 : Ref sig .tc := ⟨.hbm, 54, rfl⟩
abbrev main_call4_c_3 : Ref sig .tc := ⟨.hbm, 55, rfl⟩
abbrev main_call4_v12 : Ref sig .tc := ⟨.hbm, 56, rfl⟩
abbrev main_call4_v13 : Ref sig .tc := ⟨.hbm, 57, rfl⟩
abbrev main_call4_c_4 : Ref sig .tc := ⟨.hbm, 58, rfl⟩
abbrev main_call4_v14 : Ref sig .tc := ⟨.hbm, 59, rfl⟩
abbrev main_v20 : Ref sig .tc := ⟨.hbm, 60, rfl⟩

abbrev nD : Nat := 1
abbrev τ : Topo := Topo.v7x

variable {F : FTy → Type} [FloatOps F]
-- ==== Proof.KernelIdeal.Ring.lean ====
/- The ring of eight slots `KernelIdeal`'s body streams the argument through: names for the argument's 128 blocks, the
   eight slots and their DMA cells; what each slot holds between trips (a block in flight, or nothing); and the two
   whole-array values the loop builds up — the winners' columns and the scores — as functions of the argument. -/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Affine
public import Idealize.ShloMosaic.Lib.ValueIdxCore
public import Idealize.ShloMosaic.Lib.VecWindow
public import Idealize.ShloMosaic.Lib.Pointwise
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's beside the counters of the body's own transfers. -/
local notation "𝕄" => MT nD τ sig Unit (Elt F) ℕ (Pipeline.UD sig nD τ) ℕ
abbrev 𝒱₀ : Variants := Variants.none

/-! ## Names: block `b` of the argument, slot `s` of the ring, slot `s`'s cell -/

abbrev aM : Memref sig .tc .hbm S128x512x1000 .f32 := Memref.whole main_arg0
abbrev vM : Memref sig .tc .vmem S8x512x1000 .f32 := Memref.whole cc0_scratch0
abbrev bM : Memref sig .tc .vmem S512x128 .i32 := Memref.whole cc0_scratch2
abbrev wM : Memref sig .tc .vmem S512x1 .i32 := Memref.whole cc0_scratch3

abbrev blkOff (b : Fin 128) : Fin 3 → Nat := ![b.val, 0, 0]
theorem blkOff_inb (b : Fin 128) : ∀ a, blkOff b a + S1x512x1000.size a ≤ S128x512x1000.size a := by
  have := b.isLt; intro a; fin_cases a
  · show b.val + 1 ≤ 128; omega
  · show 0 + 512 ≤ 512; omega
  · show 0 + 1000 ≤ 1000; omega
abbrev slotOff (s : Fin 8) : Fin 3 → Nat := ![s.val, 0, 0]
theorem slotOff_inb (s : Fin 8) : ∀ a, slotOff s a + S1x512x1000.size a ≤ S8x512x1000.size a := by
  have := s.isLt; intro a; fin_cases a
  · show s.val + 1 ≤ 8; omega
  · show 0 + 512 ≤ 512; omega
  · show 0 + 1000 ≤ 1000; omega
abbrev semOff (s : Fin 8) : Fin 1 → Nat := ![s.val]
theorem semOff_inb (s : Fin 8) : ∀ a, semOff s a + S1.size a ≤ S8.size a := by
  have := s.isLt; intro a; fin_cases a; show s.val + 1 ≤ 8; omega

/-- Block `b` of the argument, as the body slices and squeezes it. -/
def grp (b : Fin 128) : Memref sig .tc .hbm S512x1000 .f32 :=
  (aM.slice (Rect.unit (s := S128x512x1000) (blkOff b) S1x512x1000.size (blkOff_inb b)) (fun _ => rfl)).squeeze S512x1000 squeezes_S1x512x1000_S512x1000
/-- Slot `s` of the ring, as the body slices and squeezes it. -/
def rslot (s : Fin 8) : Memref sig .tc .vmem S512x1000 .f32 :=
  (vM.slice (Rect.unit (s := S8x512x1000) (slotOff s) S1x512x1000.size (slotOff_inb s)) (fun _ => rfl)).squeeze S512x1000 squeezes_S1x512x1000_S512x1000
/-- Slot `s`'s DMA cell. -/
def csm (s : Fin 8) : DmaSems sig S_ := (cc0_scratch1.slice (Rect.unit (s := S8) (semOff s) S1.size (semOff_inb s))).squeeze S_ squeezes_S1_S_

instance (s : Fin 8) : ClosedOff (slotOff s) := ⟨slotOff s, rfl⟩
instance (b : Fin 128) : ClosedOff (blkOff b) := ⟨blkOff b, rfl⟩

theorem trips_eq : k0_t1_loop.trips = 128 := by decide +kernel

section Canon

theorem csm_congr {off : Fin 1 → Nat} {s : Fin 8} (e : off = semOff s) (hh) :
    (cc0_scratch1.slice (Rect.unit (s := S8) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 8} (e : off = slotOff s) (hh hs) :
    (vM.slice (Rect.unit (s := S8x512x1000) off S1x512x1000.size hh) hs).squeeze S512x1000 squeezes_S1x512x1000_S512x1000 = rslot s :=
  congrArg (fun M : Memref sig .tc .vmem S1x512x1000 .f32 => M.squeeze S512x1000 squeezes_S1x512x1000_S512x1000) (Memref.slice_unit_congr _ e _ _ _ _)
theorem grp_congr {off : Fin 3 → Nat} {b : Fin 128} (e : off = blkOff b) (hh hs) :
    (aM.slice (Rect.unit (s := S128x512x1000) off S1x512x1000.size hh) hs).squeeze S512x1000 squeezes_S1x512x1000_S512x1000 = grp b :=
  congrArg (fun M : Memref sig .tc .hbm S1x512x1000 .f32 => M.squeeze S512x1000 squeezes_S1x512x1000_S512x1000) (Memref.slice_unit_congr _ e _ _ _ _)

/-- The prologue's literal slices: cells, slots and blocks 0 to 7. -/
@[sl_canon] theorem semL0 (hh) : (cc0_scratch1.slice (Rect.unit (s := S8) (k0_off1 0#32) S1.size hh)).squeeze S_ squeezes_S1_S_ = csm 0 := csm_congr (k0_off1_eq 0) _
@[sl_canon] theorem semL1 (hh) : (cc0_scratch1.slice (Rect.unit (s := S8) (k0_off1 1#32) S1.size hh)).squeeze S_ squeezes_S1_S_ = csm 1 := csm_congr (k0_off1_eq 1) _
@[sl_canon] theorem semL2 (hh) : (cc0_scratch1.slice (Rect.unit (s := S8) (k0_off1 2#32) S1.size hh)).squeeze S_ squeezes_S1_S_ = csm 2 := csm_congr (k0_off1_eq 2) _
@[sl_canon] theorem semL3 (hh) : (cc0_scratch1.slice (Rect.unit (s := S8) (k0_off1 3#32) S1.size hh)).squeeze S_ squeezes_S1_S_ = csm 3 := csm_congr (k0_off1_eq 3) _
@[sl_canon] theorem semL4 (hh) : (cc0_scratch1.slice (Rect.unit (s := S8) (k0_off1 4#32) S1.size hh)).squeeze S_ squeezes_S1_S_ = csm 4 := csm_congr (k0_off1_eq 4) _
@[sl_canon] theorem semL5 (hh) : (cc0_scratch1.slice (Rect.unit (s := S8) (k0_off1 5#32) S1.size hh)).squeeze S_ squeezes_S1_S_ = csm 5 := csm_congr (k0_off1_eq 5) _
@[sl_canon] theorem semL6 (hh) : (cc0_scratch1.slice (Rect.unit (s := S8) (k0_off1 6#32) S1.size hh)).squeeze S_ squeezes_S1_S_ = csm 6 := csm_congr (k0_off1_eq 6) _
@[sl_canon] theorem semL7 (hh) : (cc0_scratch1.slice (Rect.unit (s := S8) (k0_off1 7#32) S1.size hh)).squeeze S_ squeezes_S1_S_ = csm 7 := csm_congr (k0_off1_eq 7) _
@[sl_canon] theorem slotL0 (hh hs) : (vM.slice (Rect.unit (s := S8x512x1000) (k0_off2 0#32) S1x512x1000.size hh) hs).squeeze S512x1000 squeezes_S1x512x1000_S512x1000 = rslot 0 := rslot_congr (k0_off2_eq 0) _ _
@[sl_canon] theorem slotL1 (hh hs) : (vM.slice (Rect.unit (s := S8x512x1000) (k0_off2 1#32) S1x512x1000.size hh) hs).squeeze S512x1000 squeezes_S1x512x1000_S512x1000 = rslot 1 := rslot_congr (k0_off2_eq 1) _ _
@[sl_canon] theorem slotL2 (hh hs) : (vM.slice (Rect.unit (s := S8x512x1000) (k0_off2 2#32) S1x512x1000.size hh) hs).squeeze S512x1000 squeezes_S1x512x1000_S512x1000 = rslot 2 := rslot_congr (k0_off2_eq 2) _ _
@[sl_canon] theorem slotL3 (hh hs) : (vM.slice (Rect.unit (s := S8x512x1000) (k0_off2 3#32) S1x512x1000.size hh) hs).squeeze S512x1000 squeezes_S1x512x1000_S512x1000 = rslot 3 := rslot_congr (k0_off2_eq 3) _ _
@[sl_canon] theorem slotL4 (hh hs) : (vM.slice (Rect.unit (s := S8x512x1000) (k0_off2 4#32) S1x512x1000.size hh) hs).squeeze S512x1000 squeezes_S1x512x1000_S512x1000 = rslot 4 := rslot_congr (k0_off2_eq 4) _ _
@[sl_canon] theorem slotL5 (hh hs) : (vM.slice (Rect.unit (s := S8x512x1000) (k0_off2 5#32) S1x512x1000.size hh) hs).squeeze S512x1000 squeezes_S1x512x1000_S512x1000 = rslot 5 := rslot_congr (k0_off2_eq 5) _ _
@[sl_canon] theorem slotL6 (hh hs) : (vM.slice (Rect.unit (s := S8x512x1000) (k0_off2 6#32) S1x512x1000.size hh) hs).squeeze S512x1000 squeezes_S1x512x1000_S512x1000 = rslot 6 := rslot_congr (k0_off2_eq 6) _ _
@[sl_canon] theorem slotL7 (hh hs) : (vM.slice (Rect.unit (s := S8x512x1000) (k0_off2 7#32) S1x512x1000.size hh) hs).squeeze S512x1000 squeezes_S1x512x1000_S512x1000 = rslot 7 := rslot_congr (k0_off2_eq 7) _ _
@[sl_canon] theorem grpL0 (hh hs) : (aM.slice (Rect.unit (s := S128x512x1000) ![0, 0, 0] S1x512x1000.size hh) hs).squeeze S512x1000 squeezes_S1x512x1000_S512x1000 = grp 0 := grp_congr (by decide) _ _
@[sl_canon] theorem grpL1 (hh hs) : (aM.slice (Rect.unit (s := S128x512x1000) ![1, 0, 0] S1x512x1000.size hh) hs).squeeze S512x1000 squeezes_S1x512x1000_S512x1000 = grp 1 := grp_congr (by decide) _ _
@[sl_canon] theorem grpL2 (hh hs) : (aM.slice (Rect.unit (s := S128x512x1000) ![2, 0, 0] S1x512x1000.size hh) hs).squeeze S512x1000 squeezes_S1x512x1000_S512x1000 = grp 2 := grp_congr (by decide) _ _
@[sl_canon] theorem grpL3 (hh hs) : (aM.slice (Rect.unit (s := S128x512x1000) ![3, 0, 0] S1x512x1000.size hh) hs).squeeze S512x1000 squeezes_S1x512x1000_S512x1000 = grp 3 := grp_congr (by decide) _ _
@[sl_canon] theorem grpL4 (hh hs) : (aM.slice (Rect.unit (s := S128x512x1000) ![4, 0, 0] S1x512x1000.size hh) hs).squeeze S512x1000 squeezes_S1x512x1000_S512x1000 = grp 4 := grp_congr (by decide) _ _
@[sl_canon] theorem grpL5 (hh hs) : (aM.slice (Rect.unit (s := S128x512x1000) ![5, 0, 0] S1x512x1000.size hh) hs).squeeze S512x1000 squeezes_S1x512x1000_S512x1000 = grp 5 := grp_congr (by decide) _ _
@[sl_canon] theorem grpL6 (hh hs) : (aM.slice (Rect.unit (s := S128x512x1000) ![6, 0, 0] S1x512x1000.size hh) hs).squeeze S512x1000 squeezes_S1x512x1000_S512x1000 = grp 6 := grp_congr (by decide) _ _
@[sl_canon] theorem grpL7 (hh hs) : (aM.slice (Rect.unit (s := S128x512x1000) ![7, 0, 0] S1x512x1000.size hh) hs).squeeze S512x1000 squeezes_S1x512x1000_S512x1000 = grp 7 := grp_congr (by decide) _ _

/-- Trip `k`: cell and slot `k % 8`, block `k` waited for, block `k + 8` started into the same slot. -/
@[sl_canon] theorem semK (k : Fin k0_t1_loop.trips) (hh) :
    (cc0_scratch1.slice (Rect.unit (s := S8) (k0_off3 k) S1.size hh)).squeeze S_ squeezes_S1_S_ = csm (Ring.sl 8 k.val) := csm_congr (k0_off3_eq k) _
@[sl_canon] theorem slotK (k : Fin k0_t1_loop.trips) (hh hs) :
    (vM.slice (Rect.unit (s := S8x512x1000) (k0_off4 k) S1x512x1000.size hh) hs).squeeze S512x1000 squeezes_S1x512x1000_S512x1000 = rslot (Ring.sl 8 k.val) := rslot_congr (k0_off4_eq k) _ _
theorem lt_128 (k : Fin k0_t1_loop.trips) : k.val < 128 := Nat.lt_of_lt_of_eq k.isLt trips_eq
@[sl_canon] theorem grpK (k : Fin k0_t1_loop.trips) (hh hs) :
    (aM.slice (Rect.unit (s := S128x512x1000) (k0_off5 k) S1x512x1000.size hh) hs).squeeze S512x1000 squeezes_S1x512x1000_S512x1000 = grp (Ring.bk 128 k.val) :=
  grp_congr ((k0_off5_eq k).trans (by unfold blkOff; rw [Ring.bk_val (lt_128 k)])) _ _
@[sl_canon] theorem semN (k : Fin k0_t1_loop.trips) (hh) :
    (cc0_scratch1.slice (Rect.unit (s := S8) (k0_off7 k) S1.size hh)).squeeze S_ squeezes_S1_S_ = csm (Ring.sl 8 k.val) :=
  csm_congr ((k0_off7_eq k).trans (by rw [Nat.add_mod_right]; rfl)) _
@[sl_canon] theorem slotN (k : Fin k0_t1_loop.trips) (hh hs) :
    (vM.slice (Rect.unit (s := S8x512x1000) (k0_off8 k) S1x512x1000.size hh) hs).squeeze S512x1000 squeezes_S1x512x1000_S512x1000 = rslot (Ring.sl 8 k.val) :=
  rslot_congr ((k0_off8_eq k).trans (by rw [Nat.add_mod_right]; rfl)) _ _
@[sl_canon] theorem grpN (k : Fin k0_t1_loop.trips) (hk : k.val + 8 < 128) (hh hs) :
    (aM.slice (Rect.unit (s := S128x512x1000) (k0_off9 k) S1x512x1000.size hh) hs).squeeze S512x1000 squeezes_S1x512x1000_S512x1000 = grp (Ring.bk 128 (k.val + 8)) :=
  grp_congr ((k0_off9_eq k).trans (by unfold blkOff; rw [Ring.bk_val hk])) _ _

/-- Trip `k`'s load of the ring reads within slot `k % 8`. -/
instance (k : Fin k0_t1_loop.trips) : ClosedOff (k0_off6 k) := ⟨slotOff (Ring.sl 8 k.val), k0_off6_eq k⟩

/-- The loop starts a further block exactly while there is one. -/
theorem cond2_iff : ∀ k : Fin k0_t1_loop.trips, k0_cond2 k = 1#1 ↔ k.val + 8 < 128 := by decide +kernel

end Canon

/-! ## What the loop computes, as functions of the argument -/

section Values
variable (c : Dev nD) (XA : Buf (Elt F) (aM.view.loc (c : Thread nD τ)))

/-- Block `b` of the argument, as the body loads it. -/
def blk (b : Fin 128) : Vec F S1x512x1000 .f32 :=
  aM.view.readAt (Elt F) (Rect.unit (s := S128x512x1000) (blkOff b) S1x512x1000.size (blkOff_inb b)).toLoadRect XA

/-- Whether some row of the block has its two largest entries' logs equal: the word the body branches on. -/
def redo (x : Vec F S1x512x1000 .f32) : BitVec 1 :=
  Scalar.cmpi .ne (Scalar.extui (Scalar.cmpf .ogt (k0_pay11 (k0_pay9 x)) (Scalar.ofBits .f32 0x00000000#32)) : BitVec 32) 0#32

/-- The winners of a block: per row the index of the largest entry, recomputed from the logs where the body does. -/
def win (x : Vec F S1x512x1000 .f32) : IVec S512x1 32 :=
  if redo x = 1#1 then k0_pay12 (k0_pay2 x) (k0_pay5 (iota .tc S512x1000 32 [1] iota_S512x1000_d1_w32) x) (k0_pay6 x) (k0_pay7 x)
  else k0_pay8 (iota .tc S512x1000 32 [1] iota_S512x1000_d1_w32) x

/-- The winners' array: column `b` holds block `b`'s winners. -/
def bcF : IVec S512x128 32 := fun i => win (blk c XA (i 1)) (ValueIdx.ix2 (i 0) 0)

/-- The scores before trip `k`: lane `b < k` the block's score, the rest zero. -/
def ssAt : ℕ → FVec F S1x128 .f32
  | 0 => k0_pay10
  | k + 1 => k0_pay14 (ssAt k) (Scf.iv 0#32 1#32 k) (k0_pay6 (blk c XA (Ring.bk 128 k)))

/-- The winners' array is right in its first `k` columns. -/
def BC (k : ℕ) (bc : IVec S512x128 32) : Prop := ∀ i : S512x128.Idx, (i 1).val < k → bc i = bcF c XA i

omit [FloatOps F] in
/-- Trip `k`'s word. -/
theorem iv_eq : ∀ k : Fin 128, Scf.iv 0#32 1#32 k.val = BitVec.ofNat 32 k.val := by decide +kernel
omit [FloatOps F] in
/-- A lane's number is trip `k`'s word exactly at lane `k`. -/
theorem lane_eq (j k : ℕ) (hj : j < 128) (hk : k < 128) : IntOp.cmpi .eq (BitVec.ofNat 32 j) (Scf.iv 0#32 1#32 k) = if j = k then 1#1 else 0#1 := by
  rw [iv_eq ⟨k, hk⟩]
  show BitVec.ofBool (BitVec.ofNat 32 j == BitVec.ofNat 32 k) = _
  by_cases h : j = k
  · rw [if_pos h, h, beq_self_eq_true]; rfl
  · rw [if_neg h, beq_eq_false_iff_ne.mpr (fun h' => h (by
      have := congrArg BitVec.toNat h'
      rw [BitVec.toNat_ofNat, BitVec.toNat_ofNat] at this; omega))]; rfl

/-- The winners' array with column `k` put in. -/
theorem pay13_apply (k : ℕ) (hk : k < 128) (w : IVec S512x1 32) (bc : IVec S512x128 32) (i : S512x128.Idx) :
    k0_pay13 (F := F) (Scf.iv 0#32 1#32 k) w bc i = if (i 1).val = k then w (ValueIdx.ix2 (i 0) 0) else bc i := by
  have h := lane_eq (i 1).val k (i 1).isLt hk
  unfold k0_pay13
  pointwise
  rw [h]
  split
  · rfl
  · rfl

/-- The winners' array right in one more column. -/
theorem BC_succ (k : ℕ) (hk : k < 128) (bc : IVec S512x128 32) (h : BC c XA k bc) :
    BC c XA (k + 1) (k0_pay13 (F := F) (Scf.iv 0#32 1#32 k) (win (blk c XA (Ring.bk 128 k))) bc) := by
  intro i hi
  have e : (Ring.bk 128 k : Fin 128).val = k := Ring.bk_val hk
  rw [pay13_apply k hk]
  split
  · rename_i h'
    have e' : (i 1 : Fin 128) = Ring.bk 128 k := Fin.ext (h'.trans e.symm)
    show _ = win (blk c XA (i 1)) _
    rw [show blk c XA (i 1) = blk c XA (Ring.bk 128 k) from congrArg (blk c XA) e']
  · exact h i (by omega)

end Values

/-! ## What a slot holds between trips -/

section Pieces
variable (c : Dev nD) (XA : Buf (Elt F) (aM.view.loc (c : Thread nD τ)))

abbrev cellP (s : Fin 8) : sProp 𝕄 := semVal ((c : Thread nD τ), SemLoc.dma (csm s).sem) 0
abbrev slotP (s : Fin 8) (f : Buf (Elt F) ((rslot s).view.loc (c : Thread nD τ))) : sProp 𝕄 :=
  (rslot s).view.loc (c : Thread nD τ) ↦[(rslot s).view.set]{fullShare} f
/-- Block `b` not in flight: its elements held at the argument's contents. -/
abbrev homeP (b : Fin 128) : sProp 𝕄 := (grp b).view.loc (c : Thread nD τ) ↦[(grp b).view.set]{fullShare} XA
/-- A block's words as a slot takes them. -/
abbrev payload (b : Fin 128) : S512x1000.Idx → Elt F .f32 := ReadAs.same.apply ((grp b).view.read (Elt F) XA)
abbrev landed (s : Fin 8) (b : Fin 128) (f : Buf (Elt F) ((rslot s).view.loc (c : Thread nD τ))) : Buf (Elt F) ((rslot s).view.loc (c : Thread nD τ)) :=
  (rslot s).view.writes (Elt F) f [⟨Rect.whole S512x1000, payload c XA b⟩]
/-- Slot `s` in flight with block `b`. -/
abbrev flightP (s : Fin 8) (b : Fin 128) (f : Buf (Elt F) ((rslot s).view.loc (c : Thread nD τ))) : sProp 𝕄 :=
  Transfers.Flight countersEmb (c : Thread nD τ) (SemLoc.dma (csm s).sem) () 65536 iprop(slotP c s (landed c XA s b f) ∗ homeP c XA b)

/-- Slot `s` when the next block it serves is `b`: in flight with it, or free when the argument has no such block. -/
def slotSt (s : Fin 8) (b : ℕ) : sProp 𝕄 :=
  if b < 128 then iprop(∃ f, flightP c XA s (Ring.bk 128 b) f) else iprop((∃ f, slotP c s f) ∗ cellP c s)
theorem slotSt_lt (s : Fin 8) {b : ℕ} (h : b < 128) : slotSt c XA s b = iprop(∃ f, flightP c XA s (Ring.bk 128 b) f) := if_pos h
theorem slotSt_ge (s : Fin 8) {b : ℕ} (h : ¬ b < 128) : slotSt c XA s b = iprop((∃ f, slotP c s f) ∗ cellP c s) := if_neg h

/-- The block slot `s` serves next, before trip `k`. -/
def nb (k : ℕ) (s : Fin 8) : ℕ := k + (s.val + 8 - k % 8) % 8
omit [FloatOps F] in
theorem nb_self (k : ℕ) : nb k (Ring.sl 8 k) = k := by
  have : (Ring.sl 8 k).val = k % 8 := rfl
  unfold nb; omega
omit [FloatOps F] in
theorem nb_succ (k : ℕ) : nb (k + 1) = Function.update (nb k) (Ring.sl 8 k) (k + 8) := by
  funext s
  have e : (Ring.sl 8 k).val = k % 8 := rfl
  have hs := s.isLt
  by_cases h : s = Ring.sl 8 k
  · subst h; rw [Function.update_self]; unfold nb; omega
  · rw [Function.update_of_ne h]
    have h' : s.val ≠ k % 8 := fun h'' => h (Fin.ext (h''.trans e.symm))
    unfold nb; omega
omit [FloatOps F] in
theorem nb_zero (s : Fin 8) : nb 0 s = s.val := by have := s.isLt; unfold nb; omega
omit [FloatOps F] in
theorem nb_last (s : Fin 8) : ¬ nb 128 s < 128 := by unfold nb; omega

/-- The body's load of slot `s` after block `b` landed there: block `b`. -/
theorem slot_load {off : Fin 3 → Nat} (s : Fin 8) (b : Fin 128) (e : off = slotOff s) (hh) (f : Buf (Elt F) ((rslot s).view.loc (c : Thread nD τ))) :
    (vM.view.readAt (Elt F) (Rect.unit (s := S8x512x1000) off S1x512x1000.size hh).toLoadRect (landed c XA s b f) : Vec F S1x512x1000 .f32) = blk c XA b := by
  subst e
  funext i
  have h := congrFun (View.read_writes_whole (Val := Elt F) (rslot s).view f (payload c XA b)) ((Shape.reshapeEquiv squeezes_S1x512x1000_S512x1000.numel_eq).symm i)
  have h' : (vM.view.slice (Rect.unit (s := S8x512x1000) (slotOff s) S1x512x1000.size (slotOff_inb s))).read (Elt F) (landed c XA s b f)
        (Shape.reshapeEquiv squeezes_S1x512x1000_S512x1000.numel_eq ((Shape.reshapeEquiv squeezes_S1x512x1000_S512x1000.numel_eq).symm i))
      = (aM.view.slice (Rect.unit (s := S128x512x1000) (blkOff b) S1x512x1000.size (blkOff_inb b))).read (Elt F) XA
        (Shape.reshapeEquiv squeezes_S1x512x1000_S512x1000.numel_eq ((Shape.reshapeEquiv squeezes_S1x512x1000_S512x1000.numel_eq).symm i)) := h
  rw [Equiv.apply_symm_apply] at h'
  exact h'

/-- The whole ring before trip `k`. -/
def ring (k : ℕ) : sProp 𝕄 := Ring.AtW (slotSt c XA) (nb k)
theorem ring_focus (k : ℕ) : ring c XA k = iprop(slotSt c XA (Ring.sl 8 k) k ∗ Ring.restW (slotSt c XA) (nb k) (Ring.sl 8 k)) := by
  unfold ring; rw [Ring.AtW_focus _ _ (Ring.sl 8 k), nb_self]
theorem ring_next (k : ℕ) : ring c XA (k + 1) = iprop(slotSt c XA (Ring.sl 8 k) (k + 8) ∗ Ring.restW (slotSt c XA) (nb k) (Ring.sl 8 k)) := by
  unfold ring; rw [Ring.AtW_focus _ _ (Ring.sl 8 k), nb_succ, Function.update_self, Ring.restW_update]

/-- The blocks at home before trip `k`: while a further block is started, that one apart; -/
theorem homes_out (k : ℕ) (hk : k + 8 < 128) :
    bigSep (Ring.homeSet 8 k) (homeP c XA) = iprop(homeP c XA (Ring.bk 128 (k + 8)) ∗ bigSep ((Ring.homeSet 8 k).erase (Ring.bk 128 (k + 8))) (homeP c XA)) := by
  conv_lhs => rw [Ring.homeSet_out 8 k hk, bigSep_insert (Ring.bkL_not_mem_erase 8 k)]
  rfl
/-- after the trip, the block waited for back beside that rest. -/
theorem homes_back (k : ℕ) (hk : k + 8 < 128) :
    bigSep (Ring.homeSet 8 (k + 1)) (homeP c XA) = iprop(homeP c XA (Ring.bk 128 k) ∗ bigSep ((Ring.homeSet 8 k).erase (Ring.bk 128 (k + 8))) (homeP c XA)) := by
  conv_lhs => rw [Ring.homeSet_succ 8 k hk, bigSep_insert (Ring.bk_not_mem_erase 8 k (by omega) (by decide))]
  rfl
/-- In the last eight trips nothing is started and the block waited for joins those at home. -/
theorem homes_tail (k : ℕ) (hk : ¬ k + 8 < 128) (h : k < 128) :
    bigSep (Ring.homeSet 8 (k + 1)) (homeP c XA) = iprop(homeP c XA (Ring.bk 128 k) ∗ bigSep (Ring.homeSet 8 k) (homeP c XA)) := by
  conv_lhs => rw [Ring.homeSet_succ_tail 8 k (by omega) h, bigSep_insert (Ring.bk_not_mem_homeSet 8 k h (by decide))]
  rfl

end Pieces

end Cert.KernelIdeal.Hand

end
-- ==== Proof.KernelIdeal.Trip.lean ====
/- One trip of `KernelIdeal`'s loop: it waits for block `k`, computes its winners and score from the slot the block
   landed in, and starts block `k + 8` into that slot while there is one. -/
module

public import proofs.«01_k».proof.Proof.KernelIdeal.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Trip
variable (c : Dev nD) (XA : Buf (Elt F) (aM.view.loc (c : Thread nD τ)))
  (arg1 : Memref sig .tc .vmem S128x512 .i32) (harg1 : arg1.IsWhole) (arg2 : Memref sig .tc .vmem S1x128 .f32) (harg2 : arg2.IsWhole)
  (arg5 : Memref sig .tc .vmem S512x128 .i32) (harg5 : arg5.IsWhole) (arg6 : Memref sig .tc .vmem S512x1 .i32) (harg6 : arg6.IsWhole)

/-- The iota the body computes once, before the loop. -/
abbrev lanes : IVec S512x1000 32 := iota .tc S512x1000 32 [1] iota_S512x1000_d1_w32

/-- Trip `k`, as the body runs it. -/
abbrev trip (k : Fin k0_t1_loop.trips) (acc : FVec F S1x128 .f32) :=
  k0_t1_body (F := F) (Memref.whole main_arg0) (Memref.isWhole_whole _) arg1 harg1 arg2 harg2 (Memref.whole cc0_scratch0) (Memref.isWhole_whole _) cc0_scratch1 arg5 harg5 arg6 harg6 lanes k acc

/-- What the loop holds before trip `k`: the winners' array right in its first `k` columns, the scores of the first
    `k` blocks carried, the blocks at home, and the ring. -/
def inv (k : ℕ) (acc : FVec F S1x128 .f32) : sProp 𝕄 :=
  iprop(⌜acc = ssAt c XA k⌝ ∗ (∃ bc : Buf (Elt F) (arg5.view.loc (c : Thread nD τ)), ⌜BC c XA k (arg5.view.read (Elt F) bc)⌝ ∗ (arg5.view.loc (c : Thread nD τ) ↦[arg5.view.set]{fullShare} bc))
    ∗ (∃ fw : Buf (Elt F) (arg6.view.loc (c : Thread nD τ)), (arg6.view.loc (c : Thread nD τ) ↦[arg6.view.set]{fullShare} fw))
    ∗ (∃ W : Waits sig Unit, owes (c : Thread nD τ) 0 W)
    ∗ bigSep (Ring.homeSet 8 k) (homeP c XA) ∗ ring c XA k)

theorem winners_eq (x : Vec F S1x512x1000 .f32) (fw : Buf (Elt F) (arg6.view.loc (c : Thread nD τ))) (inb inb' inb'') (p : Prop) [Decidable p] (hp : p ↔ redo x = 1#1) :
    (arg6.view.readAt (Elt F) (Rect.unit (s := S512x1) ![0, 0] S512x1.size inb).toLoadRect
      (if hc : p then arg6.view.writes (Elt F) fw [⟨Rect.unit (s := S512x1) ![0, 0] S512x1.size inb', k0_pay12 (k0_pay2 x) (k0_pay5 lanes x) (k0_pay6 x) (k0_pay7 x)⟩,
          ⟨Rect.unit (s := S512x1) ![0, 0] S512x1.size inb'', k0_pay8 lanes x⟩]
        else arg6.view.writes (Elt F) fw [⟨Rect.unit (s := S512x1) ![0, 0] S512x1.size inb'', k0_pay8 lanes x⟩]) : IVec S512x1 32) = win x := by
  unfold win
  by_cases h : p
  · rw [dif_pos h, if_pos (hp.mp h)]; exact View.readAt_writes_full _ _ _ _ _ _
  · rw [dif_neg h, if_neg (fun h' => h (hp.mpr h'))]; exact View.readAt_writes_full _ _ _ _ _ _

/-- A trip that starts a further block. -/
theorem trip_start (k : Fin k0_t1_loop.trips) (h2 : k.val + 8 < 128) (acc : FVec F S1x128 .f32) :
    inv c XA arg5 arg6 k.val acc ⊢ wp frame (wpE (defs₀ (F := F)) 𝒱₀ (c : Thread nD τ) none) Set.univ
      (trip arg1 harg1 arg2 harg2 arg5 harg5 arg6 harg6 k acc) (fun a => inv c XA arg5 arg6 (k.val + 1) a) := by
  have hc : k0_cond2 k = 1#1 := (cond2_iff k).mpr h2
  unfold inv
  rw [homes_out c XA k.val h2, homes_back c XA k.val h2, ring_focus, ring_next, slotSt_lt c XA _ (lt_128 k), slotSt_lt c XA _ h2]
  iintro ⟨%hacc, ⟨%bc, %hbc, HB⟩, ⟨%fw, HW⟩, ⟨%W, HO⟩, ⟨HN, HR⟩, ⟨%f, HF⟩, HT⟩
  dsimp only [trip]
  sl_unfold [k0_t1_body]
  sl_exec
  sl_step
  have hv : trip_start.sl.v421 c XA k = blk c XA (Ring.bk 128 k.val) := slot_load c XA _ _ (k0_off6_eq k) _ _
  isplitr
  · ipureintro
    rw [hacc]; show k0_pay14 _ _ (k0_pay6 (trip_start.sl.v421 c XA k)) = _; rw [hv]; rfl
  isplitl [HB]
  · iexists _
    isplitr
    rotate_left
    · iexact HB
    · ipureintro
      have := BC_succ c XA k.val (lt_128 k) _ hbc
      rw [View.read_writes_full, View.readAt_full]
      refine cast (congrArg (fun z => BC c XA (k.val + 1) (k0_pay13 (F := F) _ z _)) ?_) this
      exact Eq.symm ((winners_eq c arg6 (trip_start.sl.v421 c XA k) fw _ _ _ _ Iff.rfl).trans (congrArg win hv))
  isplitl [HW]; · iexists _; iexact HW
  isplitl [HO]; · iexists _; iexact HO
  isplitl [HF_src HR]; · isplitl [HF_src]; · iexact HF_src
                         iexact HR
  isplitl [HF]; · iexists _; iexact HF
  iexact HT

/-- One of the last eight trips, which starts nothing. -/
theorem trip_tail (k : Fin k0_t1_loop.trips) (h2 : ¬ k.val + 8 < 128) (acc : FVec F S1x128 .f32) :
    inv c XA arg5 arg6 k.val acc ⊢ wp frame (wpE (defs₀ (F := F)) 𝒱₀ (c : Thread nD τ) none) Set.univ
      (trip arg1 harg1 arg2 harg2 arg5 harg5 arg6 harg6 k acc) (fun a => inv c XA arg5 arg6 (k.val + 1) a) := by
  have hc : ¬ k0_cond2 k = 1#1 := fun h => h2 ((cond2_iff k).mp h)
  unfold inv
  rw [homes_tail c XA k.val h2 (lt_128 k), ring_focus, ring_next, slotSt_lt c XA _ (lt_128 k), slotSt_ge c XA _ h2]
  iintro ⟨%hacc, ⟨%bc, %hbc, HB⟩, ⟨%fw, HW⟩, ⟨%W, HO⟩, HR, ⟨%f, HF⟩, HT⟩
  dsimp only [trip]
  sl_unfold [k0_t1_body]
  sl_exec
  sl_step
  have hv : trip_tail.sl.v421 c XA k = blk c XA (Ring.bk 128 k.val) := slot_load c XA _ _ (k0_off6_eq k) _ _
  isplitr
  · ipureintro
    rw [hacc]; show k0_pay14 _ _ (k0_pay6 (trip_tail.sl.v421 c XA k)) = _; rw [hv]; rfl
  isplitl [HB]
  · iexists _
    isplitr
    rotate_left
    · iexact HB
    · ipureintro
      have := BC_succ c XA k.val (lt_128 k) _ hbc
      rw [View.read_writes_full, View.readAt_full]
      refine cast (congrArg (fun z => BC c XA (k.val + 1) (k0_pay13 (F := F) _ z _)) ?_) this
      exact Eq.symm ((winners_eq c arg6 (trip_tail.sl.v421 c XA k) fw _ _ _ _ Iff.rfl).trans (congrArg win hv))
  isplitl [HW]; · iexists _; iexact HW
  isplitl [HO]; · iexists _; iexact HO
  isplitl [HF_src HR]; · isplitl [HF_src]; · iexact HF_src
                         iexact HR
  isplitl [HF HF_dst]; · isplitl [HF_dst]; · iexists _; iexact HF_dst
                         iexact HF
  iexact HT

/-- Any trip. -/
theorem trip_step (k : Fin k0_t1_loop.trips) (acc : FVec F S1x128 .f32) :
    inv c XA arg5 arg6 k.val acc ⊢ wp frame (wpE (defs₀ (F := F)) 𝒱₀ (c : Thread nD τ) none) Set.univ
      (trip arg1 harg1 arg2 harg2 arg5 harg5 arg6 harg6 k acc) (fun a => inv c XA arg5 arg6 (k.val + 1) a) := by
  by_cases h : k.val + 8 < 128
  · exact trip_start c XA arg1 harg1 arg2 harg2 arg5 harg5 arg6 harg6 k h acc
  · exact trip_tail c XA arg1 harg1 arg2 harg2 arg5 harg5 arg6 harg6 k h acc

end Trip
end Cert.KernelIdeal.Hand

end
-- ==== Proof.KernelIdeal.Body.lean ====
/- `KernelIdeal`'s whole body: it starts blocks 0 to 7, runs the loop, and writes the scores and the compacted winners. -/
module

public import proofs.«01_k».proof.Proof.KernelIdeal.Trip

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The body's last stretch, a function of the winners' array alone: repeats and blanks dropped, the rest moved up, -1
    behind them, transposed. -/
def dec (v63 : IVec S512x128 32) : IVec S128x512 32 :=
  let v64 : IVec S512x128 32 := iota .tc S512x128 32 [0] iota_S512x128_d0_w32
  let v73 := k0_pay15 (F := F) v63
  let v92 := k0_pay16 (F := F) v63
  let v130 := k0_pay17 v64 v92
  let v132 := k0_pay18 (F := F) v63 v73
  let v161 := k0_pay24 (F := F) v64 v73 v130 v132
  let v166 := k0_pay25 (F := F) v64 v73 v130 v132
  let v167 := k0_pay26 (F := F) v64 v73 v130 v132
  let v168 := k0_pay27 (F := F) v64 v73 v130 v132
  let v173 := k0_pay28 (F := F) v64 v73 v130 v132
  let v192 := k0_pay31 v161 v166 v167 v168 v173
  let v197 := k0_pay32 v161 v166 v168 v173
  let v198 := k0_pay33 v161 v166 v167 v168 v173
  let v199 := k0_pay34 v161 v166 v168 v173
  let v211 := k0_pay35 v64 v161 v166 v167 v168 v173
  let v213 := k0_pay36 v161 v166 v167 v168 v173
  let v214 := k0_pay37
  let v228 := k0_pay40 v197 v199 v211 v213 v214
  let v242 := k0_pay43 v64 v192 v197 v198 v199 v211 v213 v214
  let v251 := k0_pay44 v192 v197 v198 v199 v211 v213 v214
  let v254 := k0_pay45 v64 v192 v197 v198 v199 v211 v213 v214
  let v256 := k0_pay46 v197 v199 v211 v213 v214
  let v285 := k0_pay52 v64 v228 v242 v251 v254 v256
  let v290 := k0_pay53 v64 v228 v242 v251 v254 v256
  let v291 := k0_pay54 v64 v228 v242 v251 v254 v256
  let v292 := k0_pay55 v64 v228 v242 v251 v254 v256
  let v297 := k0_pay56 v64 v228 v242 v251 v254 v256
  let v316 := k0_pay59 v285 v290 v291 v292 v297
  let v321 := k0_pay60 v285 v290 v292 v297
  let v322 := k0_pay61 v285 v290 v291 v292 v297
  let v323 := k0_pay62 v285 v290 v292 v297
  let v335 := k0_pay63 v64 v285 v290 v291 v292 v297
  let v337 := k0_pay64 v285 v290 v291 v292 v297
  let v338 := k0_pay65
  let v352 := k0_pay68 v321 v323 v335 v337 v338
  let v366 := k0_pay71 v64 v316 v321 v322 v323 v335 v337 v338
  let v375 := k0_pay72 v316 v321 v322 v323 v335 v337 v338
  let v378 := k0_pay73 v64 v316 v321 v322 v323 v335 v337 v338
  let v380 := k0_pay74 v321 v323 v335 v337 v338
  k0_pay1 v64 v352 v366 v375 v378 v380

section Body
variable (c : Dev nD) (XA : Buf (Elt F) (aM.view.loc (c : Thread nD τ)))
  (arg1 : Memref sig .tc .vmem S128x512 .i32) (harg1 : arg1.IsWhole) (arg2 : Memref sig .tc .vmem S1x128 .f32) (harg2 : arg2.IsWhole)
  (arg5 : Memref sig .tc .vmem S512x128 .i32) (harg5 : arg5.IsWhole) (arg6 : Memref sig .tc .vmem S512x1 .i32) (harg6 : arg6.IsWhole)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The ring before trip 0: every slot in flight with its block. -/
theorem ring_zero : ring c XA 0 = iprop((∃ f, flightP c XA 0 0 f) ∗ (∃ f, flightP c XA 1 1 f) ∗ (∃ f, flightP c XA 2 2 f) ∗ (∃ f, flightP c XA 3 3 f)
    ∗ (∃ f, flightP c XA 4 4 f) ∗ (∃ f, flightP c XA 5 5 f) ∗ (∃ f, flightP c XA 6 6 f) ∗ (∃ f, flightP c XA 7 7 f)) := by
  unfold ring Ring.AtW
  rw [bigSep_fin8]
  rfl

/-- The ring after the last trip: every slot free. -/
theorem ring_last : ring c XA 128 = bigSep Finset.univ fun s => iprop((∃ f, slotP c s f) ∗ cellP c s) := by
  unfold ring Ring.AtW
  congr 1; funext s
  exact slotSt_ge c XA s (nb_last s)

theorem homes_zero : bigSep Finset.univ (homeP c XA) = iprop(homeP c XA 0 ∗ homeP c XA 1 ∗ homeP c XA 2 ∗ homeP c XA 3 ∗ homeP c XA 4 ∗ homeP c XA 5 ∗ homeP c XA 6 ∗ homeP c XA 7
    ∗ bigSep (Ring.homeSet 8 0) (homeP c XA)) := by
  have e : (Finset.univ : Finset (Fin 128)) = insert 0 (insert 1 (insert 2 (insert 3 (insert 4 (insert 5 (insert 6 (insert 7 (Ring.homeSet 8 0)))))))) := by
    ext b; simp only [Finset.mem_univ, true_iff, Finset.mem_insert, Ring.mem_homeSet]
    have := b.isLt
    simp only [Fin.ext_iff]
    show b.val = 0 ∨ b.val = 1 ∨ b.val = 2 ∨ b.val = 3 ∨ b.val = 4 ∨ b.val = 5 ∨ b.val = 6 ∨ b.val = 7 ∨ _
    omega
  have n : ∀ k : Fin 128, k.val < 8 → k ∉ (Ring.homeSet 8 0 : Finset (Fin 128)) := by
    intro k hk h; rw [Ring.mem_homeSet] at h; omega
  have m : ∀ {a b : Fin 128} {S : Finset (Fin 128)}, a ≠ b → a ∉ S → a ∉ insert b S := by
    intro a b S h1 h2 h; rcases Finset.mem_insert.mp h with h | h
    · exact h1 h
    · exact h2 h
  conv_lhs => rw [e]
  rw [bigSep_insert (m (by decide) (m (by decide) (m (by decide) (m (by decide) (m (by decide) (m (by decide) (m (by decide) (n 0 (by decide))))))))),
    bigSep_insert (m (by decide) (m (by decide) (m (by decide) (m (by decide) (m (by decide) (m (by decide) (n 1 (by decide)))))))),
    bigSep_insert (m (by decide) (m (by decide) (m (by decide) (m (by decide) (m (by decide) (n 2 (by decide))))))),
    bigSep_insert (m (by decide) (m (by decide) (m (by decide) (m (by decide) (n 3 (by decide)))))),
    bigSep_insert (m (by decide) (m (by decide) (m (by decide) (n 4 (by decide))))),
    bigSep_insert (m (by decide) (m (by decide) (n 5 (by decide)))),
    bigSep_insert (m (by decide) (n 6 (by decide))),
    bigSep_insert (n 7 (by decide))]
  rfl

/-- The body, from everything it touches held at any contents but the argument's: the argument back, the winners
    compacted in the first result and the scores in the second. -/
theorem body_run (f : Buf (Elt F) ((c : Thread nD τ).loc cc0_scratch0)) :
    iprop(bigSep Finset.univ (homeP c XA) ∗ bigSep Finset.univ (fun s => slotP c s f) ∗ bigSep Finset.univ (cellP c)
        ∗ (∃ bc : Buf (Elt F) (arg5.view.loc (c : Thread nD τ)), (arg5.view.loc (c : Thread nD τ) ↦[arg5.view.set]{fullShare} bc))
        ∗ (∃ fw : Buf (Elt F) (arg6.view.loc (c : Thread nD τ)), (arg6.view.loc (c : Thread nD τ) ↦[arg6.view.set]{fullShare} fw))
        ∗ (∃ W : Waits sig Unit, owes (c : Thread nD τ) 0 W)
        ∗ (∃ g : Buf (Elt F) (arg1.view.loc (c : Thread nD τ)), (arg1.view.loc (c : Thread nD τ) ↦[arg1.view.set]{fullShare} g))
        ∗ (∃ g : Buf (Elt F) (arg2.view.loc (c : Thread nD τ)), (arg2.view.loc (c : Thread nD τ) ↦[arg2.view.set]{fullShare} g)))
      ⊢ wp frame (wpE (defs₀ (F := F)) 𝒱₀ (c : Thread nD τ) none) Set.univ
          (cc0__ctc_body (Memref.whole main_arg0) (Memref.isWhole_whole _) arg1 harg1 arg2 harg2 (Memref.whole cc0_scratch0) (Memref.isWhole_whole _) cc0_scratch1 arg5 harg5 arg6 harg6)
          (fun _ => iprop(bigSep Finset.univ (homeP c XA) ∗ bigSep Finset.univ (fun s => iprop((∃ f, slotP c s f) ∗ cellP c s))
            ∗ (∃ bc : Buf (Elt F) (arg5.view.loc (c : Thread nD τ)), (arg5.view.loc (c : Thread nD τ) ↦[arg5.view.set]{fullShare} bc))
            ∗ (∃ fw : Buf (Elt F) (arg6.view.loc (c : Thread nD τ)), (arg6.view.loc (c : Thread nD τ) ↦[arg6.view.set]{fullShare} fw))
            ∗ (∃ W : Waits sig Unit, owes (c : Thread nD τ) 0 W)
            ∗ owns (c : Thread nD τ) arg1 fullShare (dec (F := F) (bcF c XA))
            ∗ owns (c : Thread nD τ) arg2 fullShare (ssAt c XA 128))) := by
  rw [homes_zero, bigSep_fin8, bigSep_fin8]
  iintro ⟨⟨H0, H1, H2, H3, H4, H5, H6, H7, HR⟩, ⟨S0, S1, S2, S3, S4, S5, S6, S7⟩, ⟨C0, C1, C2, C3, C4, C5, C6, C7⟩, ⟨%bc, HB⟩, ⟨%fw, HW⟩, ⟨%W, HO⟩, ⟨%g1, G1⟩, ⟨%g2, G2⟩⟩
  sl_unfold [cc0__ctc_body]
  sl_exec
  rw [← homes_zero c XA]
  sl_for (inv c XA arg5 arg6) $$ [C0 C1 C2 C3 C4 C5 C6 C7 HB HW HO HR]
  case region => intro k acc; exact trip_step c XA arg1 harg1 arg2 harg2 arg5 harg5 arg6 harg6 k acc
  · unfold inv
    rw [ring_zero]
    isplitr
    · ipureintro; rfl
    isplitl [HB]
    · iexists _
      isplitr
      rotate_left
      · iexact HB
      · ipureintro; exact fun i hi => absurd hi (Nat.not_lt_zero _)
    isplitl [HW]; · iexists _; iexact HW
    isplitl [HO]; · iexists _; iexact HO
    isplitl [HR]; · iexact HR
    isplitl [C0]; · iexists _; iexact C0
    isplitl [C1]; · iexists _; iexact C1
    isplitl [C2]; · iexists _; iexact C2
    isplitl [C3]; · iexists _; iexact C3
    isplitl [C4]; · iexists _; iexact C4
    isplitl [C5]; · iexists _; iexact C5
    isplitl [C6]; · iexists _; iexact C6
    iexists _; iexact C7
  iintro %acc HI
  rw [show Scf.trips k0_t1_loop.lb k0_t1_loop.ub k0_t1_loop.st = 128 from trips_eq]
  unfold inv
  rw [ring_last, Ring.homeSet_last 8 128 (le_refl _)]
  icases HI with ⟨%hacc, ⟨%bc', %hbc, HB⟩, ⟨%fw', HW⟩, ⟨%W', HO⟩, HR, HS⟩
  sl_exec
  sl_step
  have eb : arg5.view.read (Elt F) bc' = bcF c XA := funext fun i => hbc i (i 1).isLt
  isplitl [HR]; · iexact HR
  isplitl [HS]; · iexact HS
  isplitl [HB]; · iexists _; iexact HB
  isplitl [HW]; · iexists _; iexact HW
  isplitl [HO]; · iexists _; iexact HO
  isplitl [G1]
  · unfold owns
    iexists _
    isplitr
    rotate_left
    · iexact G1
    · ipureintro
      rw [View.read_writes_full, ← eb]
      exact congrArg (dec (F := F)) (View.readAt_full _ _ _)
  · unfold owns
    iexists _
    isplitr
    rotate_left
    · iexact G2
    · ipureintro
      rw [View.read_writes_full, hacc]

end Body
end Cert.KernelIdeal.Hand

end
-- ==== Proof.KernelIdeal.Run.lean ====
/- The launch of `KernelIdeal`: the argument and the ring split into blocks and slots, the body run on them, and the whole
   program's run — every buffer it leaves, the argument and the semaphores as launched. -/
module

public import proofs.«01_k».proof.Proof.KernelIdeal.Body
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two buffers held piece by piece -/

section Sets

/-- Block `b`'s elements of the argument. -/
def Gset (b : Fin 128) : Finset S128x512x1000.Idx := (Rect.unit (s := S128x512x1000) (blkOff b) S1x512x1000.size (blkOff_inb b)).set
/-- Slot `s`'s elements of the ring. -/
def Sset (s : Fin 8) : Finset S8x512x1000.Idx := (Rect.unit (s := S8x512x1000) (slotOff s) S1x512x1000.size (slotOff_inb s)).set

theorem mem_Gset (b : Fin 128) (y : S128x512x1000.Idx) : y ∈ Gset b ↔ (y 0).val = b.val := by
  unfold Gset; rw [Rect.mem_set_unit]
  constructor
  · intro h; have h0 := h 0
    have h1 : b.val ≤ (y 0).val ∧ (y 0).val < b.val + 1 := h0
    omega
  · intro h a; fin_cases a
    · show b.val ≤ (y 0).val ∧ (y 0).val < b.val + 1; omega
    · have h1 : (y 1).val < 512 := (y 1).isLt
      show 0 ≤ (y 1).val ∧ (y 1).val < 0 + 512; omega
    · have h2 : (y 2).val < 1000 := (y 2).isLt
      show 0 ≤ (y 2).val ∧ (y 2).val < 0 + 1000; omega
theorem mem_Sset (s : Fin 8) (y : S8x512x1000.Idx) : y ∈ Sset s ↔ (y 0).val = s.val := by
  unfold Sset; rw [Rect.mem_set_unit]
  constructor
  · intro h; have h0 := h 0
    have h1 : s.val ≤ (y 0).val ∧ (y 0).val < s.val + 1 := h0
    omega
  · intro h a; fin_cases a
    · show s.val ≤ (y 0).val ∧ (y 0).val < s.val + 1; omega
    · have h1 : (y 1).val < 512 := (y 1).isLt
      show 0 ≤ (y 1).val ∧ (y 1).val < 0 + 512; omega
    · have h2 : (y 2).val < 1000 := (y 2).isLt
      show 0 ≤ (y 2).val ∧ (y 2).val < 0 + 1000; omega

theorem Gset_disjoint (b b' : Fin 128) (h : b ≠ b') : Disjoint (Gset b) (Gset b') :=
  Finset.disjoint_left.mpr fun y h1 h2 => h (Fin.ext (((mem_Gset b y).mp h1).symm.trans ((mem_Gset b' y).mp h2)))
theorem Sset_disjoint (s s' : Fin 8) (h : s ≠ s') : Disjoint (Sset s) (Sset s') :=
  Finset.disjoint_left.mpr fun y h1 h2 => h (Fin.ext (((mem_Sset s y).mp h1).symm.trans ((mem_Sset s' y).mp h2)))
theorem Gset_cover : Finset.univ.biUnion Gset = Finset.univ :=
  Finset.eq_univ_iff_forall.mpr fun y => Finset.mem_biUnion.mpr ⟨⟨(y 0).val, (y 0).isLt⟩, Finset.mem_univ _, (mem_Gset _ y).mpr rfl⟩
theorem Sset_cover : Finset.univ.biUnion Sset = Finset.univ :=
  Finset.eq_univ_iff_forall.mpr fun y => Finset.mem_biUnion.mpr ⟨⟨(y 0).val, (y 0).isLt⟩, Finset.mem_univ _, (mem_Sset _ y).mpr rfl⟩

theorem grp_set (b : Fin 128) : (grp b).view.set = Gset b := (View.set_reshape _ _).trans (View.set_slice_whole _ _)
theorem rslot_set (s : Fin 8) : (rslot s).view.set = Sset s := (View.set_reshape _ _).trans (View.set_slice_whole _ _)

end Sets

section Split
variable (c : Dev nD)

/-- The argument held whole is its blocks at home. -/
theorem arg_blocks (XA : Buf (Elt F) ((c : Thread nD τ).loc main_arg0)) :
    ((((c : Thread nD τ).loc main_arg0) ↦{fullShare} XA : sProp 𝕄)) = bigSep Finset.univ (homeP c XA) := by
  rw [Ring.pointsTo_blocks (ℓ := (c : Thread nD τ).loc main_arg0) Gset Gset_disjoint Gset_cover XA]
  congr 1; funext b
  unfold homeP; rw [grp_set]; rfl
/-- The ring held whole is its slots. -/
theorem ring_slots (f : Buf (Elt F) ((c : Thread nD τ).loc cc0_scratch0)) :
    ((((c : Thread nD τ).loc cc0_scratch0) ↦{fullShare} f : sProp 𝕄)) = bigSep Finset.univ (fun s => slotP c s f) := by
  rw [Ring.pointsTo_blocks (ℓ := (c : Thread nD τ).loc cc0_scratch0) Sset Sset_disjoint Sset_cover f]
  congr 1; funext s
  unfold slotP; rw [rslot_set]; rfl
/-- Slots at any contents join to the ring at some contents. -/
theorem slots_join (f₀ : Buf (Elt F) ((c : Thread nD τ).loc cc0_scratch0)) :
    bigSep Finset.univ (fun s => iprop(∃ f, slotP (F := F) c s f)) ⊢ (iprop(∃ g : Buf (Elt F) ((c : Thread nD τ).loc cc0_scratch0), ((c : Thread nD τ).loc cc0_scratch0) ↦{fullShare} g) : sProp 𝕄) := by
  have e : bigSep Finset.univ (fun s => iprop(∃ f, slotP (F := F) c s f))
      = (bigSep Finset.univ (fun s => iprop(∃ f : Buf (Elt F) ((c : Thread nD τ).loc cc0_scratch0), ((c : Thread nD τ).loc cc0_scratch0) ↦[Sset s]{fullShare} f)) : sProp 𝕄) := by
    congr 1; funext s
    unfold slotP; rw [rslot_set]; rfl
  rw [e]
  exact Ring.pointsTo_blocks_join_exists (ℓ := (c : Thread nD τ).loc cc0_scratch0) (q := fullShare) Sset Sset_disjoint Sset_cover f₀
/-- Slots paired with their cells are the slots and the cells. -/
theorem slots_cells : bigSep Finset.univ (fun s => iprop((∃ f, slotP (F := F) c s f) ∗ cellP (F := F) c s))
    ⊢ (iprop(bigSep Finset.univ (fun s => iprop(∃ f, slotP (F := F) c s f)) ∗ bigSep Finset.univ (cellP (F := F) c)) : sProp 𝕄) := by
  exact Entails.of_eq (BI.bigSep_sep (M := 𝕄) Finset.univ (fun s : Fin 8 => iprop(∃ f, slotP (F := F) c s f)) (cellP (F := F) c))
end Split

/-! ## The launch -/

variable (m : (ℓ : Loc nD τ sig) → Buf (Elt F) ℓ) (ρ : Dev nD → PrngReg)

/-- The body's own eight semaphores. -/
abbrev osem0 : Fin 8 → SemLoc sig := fun j => (![SemLoc.dma 2, SemLoc.dma 3, SemLoc.dma 4, SemLoc.dma 5, SemLoc.dma 6, SemLoc.dma 7, SemLoc.dma 8, SemLoc.dma 9] : Fin 8 → SemLoc sig) j
theorem ownSemFacts0 : Pipeline.OwnSemFacts spec0 osem0 := by decide
/-- They are the ring's cells. -/
theorem cells_eq (c : Dev nD) :
    (Pipeline.ownSems0 (Ix := Unit) (Name := ℕ) (U := Pipeline.UD sig nD τ) (Lvl := ℕ) (Val := Elt F) (τ := τ) osem0 c : sProp 𝕄)
      = bigSep Finset.univ (cellP (F := F) c) := by
  rw [Pipeline.ownSems0_eq_of_list c osem0 [0, 1, 2, 3, 4, 5, 6, 7] (by decide) (by decide), bigSep_fin8]; rfl
/-- The one operand the body copies from. -/
def H0 : Finset (Ref sig .tc) := {main_arg0}
theorem H0_sub : H0 ⊆ Pipeline.restRefs sig spec0 := by decide
theorem hbm_eq (c : Dev nD) :
    (bigSep H0 (fun b => ((c : Thread nD τ).loc b) ↦{fullShare} V m c b) : sProp 𝕄) = bigSep Finset.univ (homeP c (V m c main_arg0)) := by
  rw [BI.bigSep_eq_bigSepL_of_eq [main_arg0] (by decide) (by decide)]
  exact arg_blocks c (V m c main_arg0)

/-- The proof data: the arrays as the region finds them, the two results at what the body leaves, the own-copy invariant. -/
def dats (_ : Fin 1) (c : Dev nD) : Dat τ (Elt F) Unit ℕ (Pipeline.UD sig nD τ) ℕ cfg0 c where
  A w := V m c (Pipeline.arrRef spec0 w)
  after w t := match w with
    | ⟨0, _⟩ => dec (F := F) (bcF c (V m c main_arg0))
    | ⟨1, _⟩ => ssAt c (V m c main_arg0) 128
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = dec (F := F) (bcF c (V m c main_arg0)) := by dsimp only [dats]
theorem after0_1 (c : Dev nD) (t : Fin cfg0.N) : (dats m 0 c).after 1 t = ssAt c (V m c main_arg0) 128 := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem whole_pt (c : Dev nD) (b : Ref sig .tc) (f : Buf (Elt F) ((c : Thread nD τ).loc b)) :
    ((((c : Thread nD τ).loc b) ↦{fullShare} f : sProp 𝕄)) = ((c : Thread nD τ).loc b ↦[(View.whole b).set]{fullShare} f) := by
  rw [View.set_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1]
  rw [show (dats m 0 c).Φ t.castSucc = Pipeline.ΦD osem0 spec0 H0 (V m) c from rfl, Pipeline.ΦD_eq, scopedRest0_eq, cells_eq, hbm_eq]
  unfold Dat.owesAt Pipeline.owesWithin
  rw [show (dats m 0 c).owed t.castSucc = 0 from rfl, show (dats m 0 c).owed t.succ = 0 from rfl]
  iintro ⟨⟨⟨⟨%f0, HS0⟩, ⟨%f2, HS2⟩, ⟨%f3, HS3⟩⟩, Hg, Hq, Hh⟩, ⟨%W, -, HW⟩, ⟨%d0, H0⟩, ⟨%d1, H1⟩⟩
  unfold owns
  icases H0 with ⟨%e0, -, H0⟩
  icases H1 with ⟨%e1, -, H1⟩
  iapply (wp_wand_r Idealize.ShloMosaic.frame (wpE (defs₀ (F := F)) Variants.none (c : Thread nD τ) none) Set.univ)
  isplitr [Hg]
  · iapply (body_run c (V m c main_arg0) (win0_0.stage (cfg0.slots t 0)) (hstage0_0 0) (win0_1.stage (cfg0.slots t 1)) (hstage0_1 0)
      (Memref.whole cc0_scratch2) (Memref.isWhole_whole _) (Memref.whole cc0_scratch3) (Memref.isWhole_whole _) f0)
    isplitl [Hh]; · iexact Hh
    isplitl [HS0]
    · irw [← ring_slots c f0]; iexact HS0
    isplitl [Hq]; · iexact Hq
    isplitl [HS2]
    · iexists f2; irw [← whole_pt c cc0_scratch2 f2]; iexact HS2
    isplitl [HS3]
    · iexists f3; irw [← whole_pt c cc0_scratch3 f3]; iexact HS3
    isplitl [HW]; · iexists _; iexact HW
    isplitl [H0]; · iexists _; iexact H0
    iexists _; iexact H1
  · iintro %_ ⟨Hh, HSq, ⟨%g2, HS2⟩, ⟨%g3, HS3⟩, ⟨%W', HW'⟩, H0, H1⟩
    ihave HSq' := (slots_cells c) $$ HSq
    icases HSq' with ⟨HS0, Hq⟩
    ihave HS0' := (slots_join c f0) $$ HS0
    isplitl [HS0' HS2 HS3 Hg Hq Hh]
    · isplitl [HS0' HS2 HS3]
      · isplitl [HS0']; · iexact HS0'
        isplitl [HS2]
        · iexists g2; irw [whole_pt c cc0_scratch2 g2]; iexact HS2
        · iexists g3; irw [whole_pt c cc0_scratch3 g3]; iexact HS3
      isplitl [Hg]; · iexact Hg
      isplitl [Hq]; · iexact Hq
      iexact Hh
    isplitl [HW']
    · iexists W'; isplitr; · ipureintro; exact fun _ _ => Or.inl trivial
      iexact HW'
    isplitl [H0]
    · unfold owns; iexact H0
    · unfold owns; iexact H1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [] [hostOps1] (by simp only [List.Forall])
    (by simp only [List.Forall]) main_chain

theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  intro b hb
  obtain rfl : b = main_arg0 := Finset.mem_singleton.mp hb
  simp only [hostOps1, List.mem_cons, List.mem_nil_iff, or_false] at hop
  rcases hop with rfl
  rw [StableHlo.reshape_bufs, Finset.mem_insert, Finset.mem_singleton, not_or]
  exact ⟨StableHlo.devRef_ne_of_ne (by decide), StableHlo.devRef_ne_of_ne (by decide)⟩

set_option backward.isDefEq.respectTransparency.types false in
/-- The whole program's run: every window's array at its proof data's contents, every other buffer as the later host
    line leaves it, every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) 0 launch0 osem0 defs₀ Variants.none ownSemFacts0 H0 H0_sub m ρ main
    (hbody := fun c => (body_obligation m c).loose) (hshare := fun c => (dats m 0 c).share_full fun _ => rfl)
    (howed := fun _ _ => rfl) (V0 m) [hostOps1] sfx_subD sfx_fresh sfx_keeps (hmainD m) (A_eq m)
    (hin := fun _ => .rfl) (hout := fun _ => .rfl)

/-- No line after the region writes the argument. -/
theorem W_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The frame claim: the argument ends as launched, the semaphores at zero. -/
theorem frame_run : θ_run defs (onTc (τ := τ) (main (F := F))) (s₀ m ρ) (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => ((h.1 c).2 main_arg0 (Pipeline.mem_restRefs_of main_arg0 (by decide) (by decide))).trans (W_arg0 m c), h.2⟩) (run_main m ρ)

end Cert.KernelIdeal.Hand

end
-- ==== Proof.Reference.Run.lean ====
/- The reference's run: its host lines in three stretches (the class of each step; the scores; the compaction), and the run
   of the whole, every buffer at the lines' results folded over the launch contents. -/
module

public import proofs.«01_k».proof.Proof.Gen.ReferenceIdeal
public import Idealize.ShloMosaic.Lib.StableHlo.Run
public import Idealize.ShloMosaic.Adequacy
public import Idealize.ShloMosaic.Init

@[expose] public section

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- The logarithms and the class of each step. -/
abbrev opsA : List (HloOp τ sig (Elt F)) :=
  [ nullary main_cst (constant S_ .f32 0x33D6BF95#32),
    unary main_cst main_v0 (broadcastInDim S128x512x1000 ![] bcast_S_S128x512x1000),
    binary main_arg0 main_v0 main_v1 addf,
    unary main_v1 main_v2 Host.log,
    nullary main_call0_v0 (iotaInDim S128x512x1000 32 2),
    nullary main_call0_cst (constant S_ .f32 0xFF800000#32),
    nullary main_call0_c (constantI S_ 32 0#32),
    quaternary main_v2 main_call0_v0 main_call0_cst main_call0_c main_call0_v1_0 (fun x y u v j => (Host.argReduce reducer_argmax_f32_i32 x y u v reducesTo_S128x512x1000_S128x512_d2 h_S_ j).1),
    quaternary main_v2 main_call0_v0 main_call0_cst main_call0_c main_v3 (fun x y u v j => (Host.argReduce reducer_argmax_f32_i32 x y u v reducesTo_S128x512x1000_S128x512_d2 h_S_ j).2) ]
/-- The scores. -/
abbrev opsB : List (HloOp τ sig (Elt F)) :=
  [ nullary main_cst_0 (constant S_ .f32 0xFF800000#32),
    binary main_v2 main_cst_0 main_v4 (fun x v => Host.reduce FloatOps.maximumf x v reducesTo_S128x512x1000_S128x512_d2 h_S_),
    nullary main_cst_1 (constant S_ .f32 0x00000000#32),
    binary main_v4 main_cst_1 main_v5 (fun x v => Host.reduceAdd x v reducesTo_S128x512_S128_d1 h_S_),
    unary main_v5 main_v6 (broadcastInDim S128x1 ![0] bcast_S128_S128x1_0),
    unary main_v6 main_v7 Host.negf ]
/-- Which steps are kept. -/
abbrev opsC : List (HloOp τ sig (Elt F)) :=
  [ nullary main_c (constantI S_ 32 4294967295#32),
    unary main_c main_v8 (broadcastInDim S128x1 ![] bcast_S_S128x1),
    unary main_v3 main_v9 (extractStridedSlice S128x511 ![0, 0] · slices_S128x512_S128x511_0_0),
    binary main_v8 main_v9 main_v10 (fun a b => concatenate S128x512 1 [⟨S128x1, a⟩, ⟨S128x511, b⟩] concatenates_S128x1_S128x511_S128x512_d1),
    binary main_v3 main_v10 main_v11 (cmpi .ne),
    nullary main_c_2 (constantI S_ 32 999#32),
    unary main_c_2 main_v12 (broadcastInDim S128x512 ![] bcast_S_S128x512),
    binary main_v3 main_v12 main_v13 (cmpi .ne),
    binary main_v11 main_v13 main_v14 andi ]
/-- Their order. -/
abbrev opsD : List (HloOp τ sig (Elt F)) :=
  [ nullary main_v15 (iotaInDim S512 32 0),
    unary main_v15 main_v16 (broadcastInDim S1x512 ![1] bcast_S512_S1x512_1),
    nullary main_c_3 (constantI S_ 32 512#32),
    unary main_c_3 main_call1_v0 id,
    unary main_v16 main_call1_v1 (broadcastInDim S128x512 ![0, 1] bcast_S1x512_S128x512_0_1),
    unary main_call1_v0 main_call1_v2 (broadcastInDim S128x512 ![] bcast_S_S128x512),
    ternary main_v14 main_call1_v1 main_call1_v2 main_v17 select,
    nullary main_call2_v0 (iotaInDim S128x512 32 1),
    binary main_v17 main_call2_v0 main_call2_v1_0 (fun x y => (Host.sort2 S128x512 1 comparator_i32_i32_d1 x y).1),
    binary main_v17 main_call2_v0 main_v18 (fun x y => (Host.sort2 S128x512 1 comparator_i32_i32_d1 x y).2),
    nullary main_c_4 (constantI S_ 32 4294967295#32),
    unary main_c_4 main_call3_v0 id,
    unary main_call3_v0 main_call3_v1 (broadcastInDim S128x512 ![] bcast_S_S128x512),
    ternary main_v14 main_v3 main_call3_v1 main_v19 select ]
/-- The kept classes taken in that order. -/
abbrev opsE : List (HloOp τ sig (Elt F)) :=
  [ nullary main_call4_c (constantI S_ 32 0#32),
    unary main_call4_c main_call4_v0 (broadcastInDim S128x512 ![] bcast_S_S128x512),
    binary main_v18 main_call4_v0 main_call4_v1 (cmpi .slt),
    nullary main_call4_c_0 (constantI S_ 32 512#32),
    unary main_call4_c_0 main_call4_v2 (broadcastInDim S128x512 ![] bcast_S_S128x512),
    binary main_v18 main_call4_v2 main_call4_v3 addi,
    ternary main_call4_v1 main_call4_v3 main_v18 main_call4_v4 select,
    reshape main_call4_v4 main_call4_v5 (rfl : (.i32 : EltTy) = .i32) shapeCasts_S128x512_S128x512x1,
    nullary main_call4_c_1 (constantI S1 32 511#32),
    nullary main_call4_c_2 (constantI S_ 32 0#32),
    unary main_call4_c_2 main_call4_v6 (broadcastInDim S128x512x1 ![] bcast_S_S128x512x1),
    binary main_call4_v5 main_call4_v6 main_call4_v7 (cmpi .sge),
    unary main_call4_c_1 main_call4_v8 (broadcastInDim S1x1x1 ![2] bcast_S1_S1x1x1_2),
    unary main_call4_v8 main_call4_v9 (broadcastInDim S128x512x1 ![0, 1, 2] bcast_S1x1x1_S128x512x1_0_1_2),
    binary main_call4_v5 main_call4_v9 main_call4_v10 (cmpi .sle),
    binary main_call4_v7 main_call4_v10 main_call4_v11 andi,
    nullary main_call4_c_3 (constantI S_ 1 1#1),
    binary main_call4_v11 main_call4_c_3 main_call4_v12 (fun x v => Host.reduce IntOp.andi x v reducesTo_S128x512x1_S128x512_d2 h_S_),
    binary main_v19 main_call4_v5 main_call4_v13 (fun x i => Host.gather gather_S128x512_S128x512x1_S128x512_n_1_0_0_1_2_11 x i),
    nullary main_call4_c_4 (constantI S_ 32 2147483648#32),
    unary main_call4_c_4 main_call4_v14 (broadcastInDim S128x512 ![] bcast_S_S128x512),
    ternary main_call4_v12 main_call4_v13 main_call4_v14 main_v20 select ]
/-- All the lines, in order. -/
abbrev ops : List (HloOp τ sig (Elt F)) := opsA ++ opsB ++ opsC ++ opsD ++ opsE

set_option maxRecDepth 100000 in
/-- @main is that straight line. -/
theorem main_eq (c : Dev nD) : main (F := F) c = seq ops := rfl

/-- Nothing is scoped. -/
theorem scopedRefs_eq : (Finset.univ.filter fun b : Ref sig .tc => b.isScoped) = ∅ := by decide
theorem scopedSems_eq : (Finset.univ.filter fun sm : SemLoc sig => sm.isScoped .tc) = ∅ := by decide

theorem no_sem (g : MemSt nD τ sig (Elt F)) : g.sem = fun _ => 0 := by
  funext q
  rcases q with ⟨t, q⟩
  rcases q with s | s <;> exact s.elim0

/-! ## The results as functions -/

/-- The logarithms. -/
def lpR (x : FVec F S128x512x1000 .f32) : FVec F S128x512x1000 .f32 :=
  Host.log (addf x (broadcastInDim S128x512x1000 ![] bcast_S_S128x512x1000 (constant S_ .f32 0x33D6BF95#32)))
/-- The class of each step. -/
def clsR (x : FVec F S128x512x1000 .f32) : IVec S128x512 32 := fun j =>
  (Host.argReduce reducer_argmax_f32_i32 (lpR x) (iotaInDim S128x512x1000 32 2) (constant S_ .f32 0xFF800000#32) (constantI S_ 32 0#32) reducesTo_S128x512x1000_S128x512_d2 h_S_ j).2
/-- The scores, of the logarithms. -/
def scoreR (l : FVec F S128x512x1000 .f32) : FVec F S128x1 .f32 :=
  Host.negf (broadcastInDim S128x1 ![0] bcast_S128_S128x1_0 (Host.reduceAdd (Host.reduce FloatOps.maximumf l (constant S_ .f32 0xFF800000#32) reducesTo_S128x512x1000_S128x512_d2 h_S_) (constant S_ .f32 0x00000000#32) reducesTo_S128x512_S128_d1 h_S_))
/-- The kept steps, of the classes. -/
def keepR (b : IVec S128x512 32) : IVec S128x512 1 :=
  andi (cmpi .ne b (concatenate S128x512 1 [⟨S128x1, broadcastInDim S128x1 ![] bcast_S_S128x1 (constantI S_ 32 4294967295#32)⟩,
      ⟨S128x511, extractStridedSlice S128x511 ![0, 0] b slices_S128x512_S128x511_0_0⟩] concatenates_S128x1_S128x511_S128x512_d1))
    (cmpi .ne b (broadcastInDim S128x512 ![] bcast_S_S128x512 (constantI S_ 32 999#32)))
/-- The order of the steps, of the kept ones. -/
def ordR (k : IVec S128x512 1) : IVec S128x512 32 :=
  (Host.sort2 S128x512 1 comparator_i32_i32_d1 (select k (broadcastInDim S128x512 ![0, 1] bcast_S1x512_S128x512_0_1 (broadcastInDim S1x512 ![1] bcast_S512_S1x512_1 (iotaInDim S512 32 0)))
    (broadcastInDim S128x512 ![] bcast_S_S128x512 (constantI S_ 32 512#32))) (iotaInDim S128x512 32 1)).2
/-- The classes of the kept steps, `-1` at the others. -/
def valR (k : IVec S128x512 1) (b : IVec S128x512 32) : IVec S128x512 32 :=
  select k b (broadcastInDim S128x512 ![] bcast_S_S128x512 (constantI S_ 32 4294967295#32))
/-- The positions to take from: the negative ones wrapped. -/
def posR (o : IVec S128x512 32) : IVec S128x512x1 32 :=
  shapeCast S128x512x1 (select (cmpi .slt o (broadcastInDim S128x512 ![] bcast_S_S128x512 (constantI S_ 32 0#32)))
    (addi o (broadcastInDim S128x512 ![] bcast_S_S128x512 (constantI S_ 32 512#32))) o) shapeCasts_S128x512_S128x512x1
/-- The values taken at the positions. -/
def takeR (v : IVec S128x512 32) (q : IVec S128x512x1 32) : IVec S128x512 32 :=
  select (Host.reduce IntOp.andi (andi (cmpi .sge q (broadcastInDim S128x512x1 ![] bcast_S_S128x512x1 (constantI S_ 32 0#32)))
      (cmpi .sle q (broadcastInDim S128x512x1 ![0, 1, 2] bcast_S1x1x1_S128x512x1_0_1_2 (broadcastInDim S1x1x1 ![2] bcast_S1_S1x1x1_2 (constantI S1 32 511#32)))))
      (constantI S_ 1 1#1) reducesTo_S128x512x1_S128x512_d2 h_S_)
    (Host.gather gather_S128x512_S128x512x1_S128x512_n_1_0_0_1_2_11 v q)
    (broadcastInDim S128x512 ![] bcast_S_S128x512 (constantI S_ 32 2147483648#32))
/-- The decoded rows, of the classes. -/
def decR (b : IVec S128x512 32) : IVec S128x512 32 := takeR (valR (keepR b) b) (posR (ordR (keepR b)))

section Read
variable (V : Valuation τ sig (Elt F))

theorem A_v2 : after opsA V (main_v2 : DevRef τ sig) = lpR (V (main_arg0 : DevRef τ sig)) := by after_results; rfl
theorem A_v3 : after opsA V (main_v3 : DevRef τ sig) = clsR (V (main_arg0 : DevRef τ sig)) := by after_results; rfl
theorem A_arg0 : after opsA V (main_arg0 : DevRef τ sig) = V (main_arg0 : DevRef τ sig) := by after_results
theorem B_v7 : after opsB V (main_v7 : DevRef τ sig) = scoreR (V (main_v2 : DevRef τ sig)) := by after_results; rfl
theorem B_v3 : after opsB V (main_v3 : DevRef τ sig) = V (main_v3 : DevRef τ sig) := by after_results
theorem B_arg0 : after opsB V (main_arg0 : DevRef τ sig) = V (main_arg0 : DevRef τ sig) := by after_results
theorem C_v14 : after opsC V (main_v14 : DevRef τ sig) = keepR (V (main_v3 : DevRef τ sig)) := by after_results; rfl
theorem C_v3 : after opsC V (main_v3 : DevRef τ sig) = V (main_v3 : DevRef τ sig) := by after_results
theorem C_v7 : after opsC V (main_v7 : DevRef τ sig) = V (main_v7 : DevRef τ sig) := by after_results
theorem C_arg0 : after opsC V (main_arg0 : DevRef τ sig) = V (main_arg0 : DevRef τ sig) := by after_results
theorem D_v18 : after opsD V (main_v18 : DevRef τ sig) = ordR (V (main_v14 : DevRef τ sig)) := by after_results; rfl
theorem D_v19 : after opsD V (main_v19 : DevRef τ sig) = valR (V (main_v14 : DevRef τ sig)) (V (main_v3 : DevRef τ sig)) := by after_results; rfl
theorem D_v7 : after opsD V (main_v7 : DevRef τ sig) = V (main_v7 : DevRef τ sig) := by after_results
theorem D_arg0 : after opsD V (main_arg0 : DevRef τ sig) = V (main_arg0 : DevRef τ sig) := by after_results
theorem E_v20 : after opsE V (main_v20 : DevRef τ sig) = takeR (V (main_v19 : DevRef τ sig)) (posR (V (main_v18 : DevRef τ sig))) := by after_results; rfl
theorem E_v7 : after opsE V (main_v7 : DevRef τ sig) = V (main_v7 : DevRef τ sig) := by after_results
theorem E_arg0 : after opsE V (main_arg0 : DevRef τ sig) = V (main_arg0 : DevRef τ sig) := by after_results

/-- The stretches follow one another. -/
theorem after_ops : after ops V = after opsE (after opsD (after opsC (after opsB (after opsA V)))) := rfl

theorem out_v20 : after ops V (main_v20 : DevRef τ sig) = decR (clsR (V (main_arg0 : DevRef τ sig))) := by
  rw [after_ops, E_v20, D_v19, D_v18, C_v14, C_v3, B_v3, A_v3]; rfl
theorem out_v7 : after ops V (main_v7 : DevRef τ sig) = scoreR (lpR (V (main_arg0 : DevRef τ sig))) := by
  rw [after_ops, E_v7, D_v7, C_v7, B_v7, A_v2]
theorem out_arg0 : after ops V (main_arg0 : DevRef τ sig) = V (main_arg0 : DevRef τ sig) := by
  rw [after_ops, E_arg0, D_arg0, C_arg0, B_arg0, A_arg0]
end Read

/-- Every line touches TensorCore references only. -/
theorem ops_sub : (ops : List (HloOp τ sig (Elt F))).Forall fun op => op.bufs ⊆ tcRefs τ sig := by
  simp only [ops, opsA, opsB, opsC, opsD, opsE, List.cons_append, List.nil_append, List.Forall, nullary_bufs_sub, unary_bufs_sub, binary_bufs_sub, ternary_bufs_sub,
    quaternary_bufs_sub, reshape_bufs_sub, and_self]

/-- The reference's run: the two results, the argument as launched, the counters at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v20) = decR (clsR (F := F) (m ((c.tc : Thread nD τ).loc main_arg0)))
        ∧ r.2.mem ((c.tc : Thread nD τ).loc main_v7) = scoreR (lpR (m ((c.tc : Thread nD τ).loc main_arg0)))
        ∧ r.2.mem ((c.tc : Thread nD τ).loc main_arg0) = m ((c.tc : Thread nD τ).loc main_arg0)) ∧ r.2.sem = fun _ => 0 :=
  (θ_run defs _ _).mono (fun r h => ⟨fun c => ⟨(h c main_v20).trans (out_v20 _), (h c main_v7).trans (out_v7 _), (h c main_arg0).trans (out_arg0 _)⟩, no_sem _⟩)
    (run_seq scopedRefs_eq scopedSems_eq defs main (fun _ => ops) main_eq (fun _ => ops_sub) m ρ)

end Cert.ReferenceIdeal.Hand

end
-- ==== Proof.KernelIdeal.Values.lean ====
/- What the kernel's run leaves in its result arrays: the decoded rows, and the scores laid out as a column. -/
module

public import proofs.«01_k».proof.Proof.KernelIdeal.Run
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-- The grid's one point. -/
abbrev pt0 : Fin cfg0.N := ⟨0, by decide⟩

/-- The first result array ends holding the decoded rows. -/
theorem arr_0 (c : Dev nD) : (dats m 0 c).arrAt 0 cfg0.N = dec (F := F) (bcF c (V m c main_arg0)) := by
  refine (dats m 0 c).arrAt_eq_of_after_last 0 pt0 (by decide +kernel) _ fun j => ?_
  rw [after0_0]; rfl

/-- The second result array ends holding the scores after the last trip. -/
theorem arr_1 (c : Dev nD) : (dats m 0 c).arrAt 1 cfg0.N = ssAt c (V m c main_arg0) 128 := by
  refine (dats m 0 c).arrAt_eq_of_after_last 1 pt0 (by decide +kernel) _ fun j => ?_
  rw [after0_1]; rfl

/-- The host line after the launch lays the scores out as a column. -/
theorem W_v1 (c : Dev nD) :
    Pipeline.afterTail₀ cfgs (dats m) 0 (V0 m) [hostOps1] c main_v1
      = shapeCast S128x1 (ssAt c (V m c main_arg0) 128) shapeCasts_S1x128_S128x1 := by
  have h : Pipeline.withArrays spec0 c (V0 m c) (fun w => (dats m 0 c).arrAt w cfg0.N) (Proc.devRef .tc main_v0_1)
      = ssAt c (V m c main_arg0) 128 :=
    (Pipeline.withArrays_arr spec0 (by decide) c (V0 m c) (fun w => (dats m 0 c).arrAt w cfg0.N) 1).trans (arr_1 m c)
  rw [← h]
  unfold Pipeline.afterTail₀
  simp only [hostOps1, List.flatten_cons, List.flatten_nil, List.append_nil]
  after_results
  rfl

/-- The whole program's run, read at its results and its argument. -/
theorem run_values : θ_run defs (onTc (τ := τ) (main (F := F))) (s₀ m ρ) (fun r => ∀ c : Dev nD,
      r.2.mem ((c.tc : Thread nD τ).loc main_v0_0) = dec (F := F) (bcF c (m ((c.tc : Thread nD τ).loc main_arg0)))
      ∧ r.2.mem ((c.tc : Thread nD τ).loc main_v1)
        = shapeCast S128x1 (ssAt c (m ((c.tc : Thread nD τ).loc main_arg0)) 128) shapeCasts_S1x128_S128x1
      ∧ r.2.mem ((c.tc : Thread nD τ).loc main_arg0) = m ((c.tc : Thread nD τ).loc main_arg0)) :=
  (θ_run defs _ _).mono (fun _ h c =>
    ⟨((h.1 c).1 0).trans (arr_0 m c),
     ((h.1 c).2 main_v1 (Pipeline.mem_restRefs_of main_v1 (by decide) (by decide))).trans (W_v1 m c),
     ((h.1 c).2 main_arg0 (Pipeline.mem_restRefs_of main_arg0 (by decide) (by decide))).trans (W_arg0 m c)⟩) (run_main m ρ)

end Cert.KernelIdeal.Hand

end
-- ==== Proof.Value.Rows.lean ====
/- One row of scores: its greatest value, the first place holding it, and the folds that find them. -/
module

public import Idealize.ShloMosaic.PureOps.Reduce
public import Idealize.ShloMosaic.PureOps.Ideal.Laws
public import Idealize.ShloMosaic.Lib.ValueIdxCore

@[expose] public section

noncomputable section

namespace Cert.Value.Rows

open Idealize.ShloMosaic

/-- A place holding the greatest value of the row, with no earlier one holding it. -/
def FirstMax (l : Fin 1000 → EReal) (i : Fin 1000) : Prop := (∀ j, l j ≤ l i) ∧ ∀ j, j < i → l j ≠ l i

/-- There is at most one such place. -/
theorem FirstMax.unique {l : Fin 1000 → EReal} {i j : Fin 1000} (hi : FirstMax l i) (hj : FirstMax l j) : i = j := by
  have e : l i = l j := le_antisymm (hj.1 i) (hi.1 j)
  rcases lt_trichotomy i j with h | h | h
  · exact absurd e (hj.2 i h)
  · exact h
  · exact absurd e.symm (hi.2 j h)

/-- `m` is the greatest value of the row. -/
def IsTop (l : Fin 1000 → EReal) (m : EReal) : Prop := (∀ j, l j ≤ m) ∧ ∃ j, l j = m

/-- There is at most one greatest value. -/
theorem IsTop.unique {l : Fin 1000 → EReal} {m n : EReal} (hm : IsTop l m) (hn : IsTop l n) : m = n := by
  obtain ⟨i, hi⟩ := hm.2
  obtain ⟨j, hj⟩ := hn.2
  exact le_antisymm (hi ▸ hn.1 i) (hj ▸ hm.1 j)

/-- The greatest value is held first somewhere. -/
theorem IsTop.first {l : Fin 1000 → EReal} {m : EReal} (h : IsTop l m) : ∃ i, FirstMax l i ∧ l i = m := by
  classical
  obtain ⟨j, hj⟩ := h.2
  have hne : (Finset.univ.filter fun j => l j = m).Nonempty := ⟨j, by simp [hj]⟩
  have hm := Finset.min'_mem _ hne
  refine ⟨(Finset.univ.filter fun j => l j = m).min' hne, ?_, (Finset.mem_filter.1 hm).2⟩
  have hv := (Finset.mem_filter.1 hm).2
  refine ⟨fun k => hv.symm ▸ h.1 k, fun k hk e => ?_⟩
  have := Finset.min'_le (Finset.univ.filter fun j => l j = m) k (by simp [e, hv])
  exact absurd hk (not_lt.2 this)

/-- A fold of the maximum from the least value over a nonempty set: an upper bound that is reached. -/
theorem fold_max_spec {ι : Type} (s : Finset ι) (f : ι → EReal) :
    (∀ c ∈ s, f c ≤ s.fold max ⊥ f) ∧ (s.fold max ⊥ f = ⊥ ∨ ∃ c ∈ s, f c = s.fold max ⊥ f) := by
  classical
  induction s using Finset.induction_on with
  | empty => simp
  | insert a s ha ih =>
    rw [Finset.fold_insert ha]
    refine ⟨fun c hc => ?_, ?_⟩
    · rcases Finset.mem_insert.1 hc with rfl | h
      · exact le_max_left _ _
      · exact (ih.1 c h).trans (le_max_right _ _)
    · rcases le_total (f a) (s.fold max ⊥ f) with h | h
      · rw [max_eq_right h]
        rcases ih.2 with e | ⟨c, hc, e⟩
        · exact .inl e
        · exact .inr ⟨c, Finset.mem_insert_of_mem hc, e⟩
      · rw [max_eq_left h]
        exact .inr ⟨a, Finset.mem_insert_self _ _, rfl⟩

/-- The fold of the maximum over a row is its greatest value. -/
theorem isTop_fold (l : Fin 1000 → EReal) : IsTop l (Finset.univ.fold max ⊥ l) := by
  have h := fold_max_spec Finset.univ l
  refine ⟨fun j => h.1 j (Finset.mem_univ _), ?_⟩
  rcases h.2 with e | ⟨c, -, e⟩
  · exact ⟨0, le_antisymm (h.1 0 (Finset.mem_univ _)) (by rw [e]; exact bot_le)⟩
  · exact ⟨c, e⟩

/-- The least of two words, read as a number. -/
theorem minsi_cases (x y : BitVec 32) :
    (IntOp.minsi x y = x ∧ x.toInt ≤ y.toInt) ∨ (IntOp.minsi x y = y ∧ y.toInt ≤ x.toInt) := by
  unfold IntOp.minsi
  split
  · rename_i h
    rw [BitVec.slt_iff_toInt_lt] at h
    first | exact .inl ⟨rfl, by omega⟩ | exact .inr ⟨rfl, by omega⟩
  · rename_i h
    rw [BitVec.slt_iff_toInt_lt] at h
    first | exact .inr ⟨rfl, by omega⟩ | exact .inl ⟨rfl, by omega⟩

/-- A fold of the signed minimum: a lower bound that is the start or is reached. -/
theorem fold_minsi_spec {ι : Type} (s : Finset ι) (f : ι → BitVec 32) (a : BitVec 32) :
    (∀ c ∈ s, (s.fold IntOp.minsi a f).toInt ≤ (f c).toInt) ∧ (s.fold IntOp.minsi a f = a ∨ ∃ c ∈ s, f c = s.fold IntOp.minsi a f) := by
  classical
  induction s using Finset.induction_on with
  | empty => simp
  | insert b s hb ih =>
    rw [Finset.fold_insert hb]
    rcases minsi_cases (f b) (s.fold IntOp.minsi a f) with ⟨e, h⟩ | ⟨e, h⟩
    · rw [e]
      refine ⟨fun c hc => ?_, .inr ⟨b, Finset.mem_insert_self _ _, rfl⟩⟩
      rcases Finset.mem_insert.1 hc with rfl | h'
      · exact le_rfl
      · exact h.trans (ih.1 c h')
    · rw [e]
      refine ⟨fun c hc => ?_, ?_⟩
      · rcases Finset.mem_insert.1 hc with rfl | h'
        · exact h
        · exact ih.1 c h'
      · rcases ih.2 with e | ⟨c, hc, e⟩
        · exact .inl e
        · exact .inr ⟨c, Finset.mem_insert_of_mem hc, e⟩

theorem toInt_ofNat_small (n : ℕ) (h : n ≤ 1000) : (BitVec.ofNat 32 n).toInt = n := by
  rw [BitVec.toInt_eq_toNat_of_lt (by rw [BitVec.toNat_ofNat]; omega), BitVec.toNat_ofNat, Nat.mod_eq_of_lt (by omega)]

/-- The least number of a place where `P` holds, the other places standing for 1000, is the first such place. -/
theorem fold_minsi_first (P : Fin 1000 → Prop) (f : Fin 1000 → BitVec 32) (h1 : ∀ c, P c → f c = BitVec.ofNat 32 c.val)
    (h0 : ∀ c, ¬ P c → f c = 1000#32) (i : Fin 1000) (hi : P i) (hmin : ∀ j, j < i → ¬ P j) :
    Finset.univ.fold IntOp.minsi 2147483647#32 f = BitVec.ofNat 32 i.val := by
  have h := fold_minsi_spec Finset.univ f 2147483647#32
  have hle := h.1 i (Finset.mem_univ _)
  rw [h1 i hi, toInt_ofNat_small _ (by omega)] at hle
  have hi' := i.isLt
  rcases h.2 with e | ⟨c, -, e⟩
  · rw [e] at hle
    have : (2147483647#32 : BitVec 32).toInt = 2147483647 := by decide
    omega
  · rw [← e] at hle ⊢
    by_cases hc : P c
    · rw [h1 c hc, toInt_ofNat_small _ (by omega)] at hle
      have : ¬ c < i := fun hlt => hmin c hlt hc
      have : c = i := le_antisymm (Fin.le_def.2 (by omega)) (not_lt.1 this)
      rw [h1 c hc, this]
    · rw [h0 c hc] at hle
      have : (1000#32 : BitVec 32).toInt = 1000 := by decide
      omega

/-- The logarithm of the extended reals keeps the order. -/
theorem log_mono : Monotone Ideal.log := by
  intro x y h
  induction x with
  | bot => exact bot_le
  | top => rw [top_le_iff.1 h]
  | coe a =>
    induction y with
    | bot => exact absurd h (by simp)
    | top => exact le_top
    | coe b =>
      have hab : a ≤ b := EReal.coe_le_coe_iff.1 h
      show (if a ≤ 0 then (⊥ : EReal) else (Real.log a : EReal)) ≤ (if b ≤ 0 then (⊥ : EReal) else (Real.log b : EReal))
      by_cases ha : a ≤ 0
      · rw [if_pos ha]; exact bot_le
      · rw [if_neg ha, if_neg (by linarith), EReal.coe_le_coe_iff]
        exact Real.log_le_log (not_le.1 ha) hab

/-- The logarithm of a value moved by a fixed amount. -/
def lg (e x : EReal) : EReal := Ideal.log (x + e)

theorem lg_mono (e : EReal) : Monotone (lg e) := fun _ _ h => log_mono (add_le_add h le_rfl)

/-- The logarithm of the greatest value is the greatest logarithm. -/
theorem IsTop.lg {l : Fin 1000 → EReal} {m : EReal} (h : IsTop l m) (e : EReal) : IsTop (fun c => Rows.lg e (l c)) (Rows.lg e m) := by
  refine ⟨fun j => lg_mono e (h.1 j), ?_⟩
  obtain ⟨j, hj⟩ := h.2
  exact ⟨j, congrArg _ hj⟩

/-- When the greatest value below the top has another logarithm than the top, the first place holding the greatest value is
the first place holding the greatest logarithm. -/
theorem first_of_apart {l : Fin 1000 → EReal} {m m' : EReal} (e : EReal) (h : IsTop l m)
    (h' : ∀ c, l c ≠ m → l c ≤ m') (hne : m' ≤ m) (hap : Rows.lg e m' ≠ Rows.lg e m) {i : Fin 1000} (hi : FirstMax l i) (him : l i = m) :
    FirstMax (fun c => Rows.lg e (l c)) i := by
  refine ⟨fun j => lg_mono e (hi.1 j), fun j hj he => ?_⟩
  have hjm : l j ≠ m := him ▸ hi.2 j hj
  apply hap
  refine le_antisymm (lg_mono e hne) ?_
  rw [← him]
  exact he.ge.trans (lg_mono e (h' j hjm))

end Cert.Value.Rows
-- ==== Proof.Value.RefArg.lean ====
/- The reference's logarithms and its pairwise reduction for the greatest value and its place, as a fold over a row. -/
module

public import proofs.«01_k».proof.Proof.Reference.Run
public import proofs.«01_k».proof.Proof.Value.Rows
public import Idealize.ShloMosaic.Lib.KernelVsHost
public import Idealize.ShloMosaic.Lib.Pipeline.Value

@[expose] public section

noncomputable section

namespace Cert.Value.Ref

open Idealize.ShloMosaic Idealize.ShloMosaic.ValueIdx
open Cert.ReferenceIdeal Cert.ReferenceIdeal.Gen Cert.ReferenceIdeal.Hand Cert.Value.Rows

/-- The amount added before the logarithm. -/
def eps : EReal := Ideal.ofBits .f32 0x33D6BF95#32

/-- A value and its place are at least as good as another: a greater value, or the same value at no later place. -/
def Better (r p : EReal × BitVec 32) : Prop := p.1 < r.1 ∨ (p.1 = r.1 ∧ r.2.toInt ≤ p.2.toInt)

theorem Better.refl (r : EReal × BitVec 32) : Better r r := .inr ⟨rfl, le_rfl⟩

theorem Better.trans {a b c : EReal × BitVec 32} (h : Better a b) (h' : Better b c) : Better a c := by
  rcases h with h | ⟨h, k⟩ <;> rcases h' with h' | ⟨h', k'⟩
  · exact .inl (h'.trans h)
  · exact .inl (h' ▸ h)
  · exact .inl (h ▸ h')
  · exact .inr ⟨h'.trans h, k.trans k'⟩

theorem ofBool_eq (b : Bool) : BitVec.ofBool b = 1#1 ↔ b = true := by cases b <;> decide

/-- One step of the search keeps one of its two pairs, at least as good as both. -/
theorem reducer_spec (a b : EReal × BitVec 32) :
    Better (reducer_argmax_f32_i32 (F := Ideal) a b) a ∧ Better (reducer_argmax_f32_i32 (F := Ideal) a b) b ∧
      (reducer_argmax_f32_i32 (F := Ideal) a b = a ∨ reducer_argmax_f32_i32 (F := Ideal) a b = b) := by
  obtain ⟨x, i⟩ := a
  obtain ⟨y, j⟩ := b
  have e : reducer_argmax_f32_i32 (F := Ideal) (x, i) (y, j)
      = (Scalar.select (IntOp.ori (BitVec.ofBool (decide (y < x))) (BitVec.ofBool (decide (x ≠ x)))) x y,
         Scalar.select (IntOp.ori (IntOp.ori (BitVec.ofBool (decide (y < x))) (BitVec.ofBool (decide (x ≠ x))))
            (IntOp.andi (BitVec.ofBool (decide (x = y))) (BitVec.ofBool (i.slt j)))) i j) := rfl
  rw [e]
  have hs : i.slt j = decide (i.toInt < j.toInt) := rfl
  rw [hs]
  rcases lt_trichotomy y x with h | h | h
  · have : (Scalar.select (IntOp.ori (BitVec.ofBool (decide (y < x))) (BitVec.ofBool (decide (x ≠ x)))) x y,
         Scalar.select (IntOp.ori (IntOp.ori (BitVec.ofBool (decide (y < x))) (BitVec.ofBool (decide (x ≠ x))))
            (IntOp.andi (BitVec.ofBool (decide (x = y))) (BitVec.ofBool (decide (i.toInt < j.toInt))))) i j) = (x, i) := by
      rw [decide_eq_true h, decide_eq_false (not_not.2 rfl), decide_eq_false h.ne']
      simp [Scalar.select, IntOp.ori, IntOp.andi]
    rw [this]
    exact ⟨Better.refl _, .inl h, .inl rfl⟩
  · subst h
    by_cases hij : i.toInt < j.toInt
    · rw [decide_eq_true hij]
      simp [Scalar.select, IntOp.ori, IntOp.andi]
      exact ⟨Better.refl _, .inr ⟨rfl, hij.le⟩⟩
    · rw [decide_eq_false hij]
      simp [Scalar.select, IntOp.ori, IntOp.andi]
      exact ⟨.inr ⟨rfl, not_lt.1 hij⟩, Better.refl _⟩
  · rw [decide_eq_false (not_lt.2 h.le), decide_eq_false (not_not.2 rfl), decide_eq_false h.ne]
    simp [Scalar.select, IntOp.ori, IntOp.andi]
    exact ⟨.inl h, Better.refl _⟩

/-- The search over a list ends at its start or a pair of the list, at least as good as all of them. -/
theorem foldl_spec (L : List (EReal × BitVec 32)) (a : EReal × BitVec 32) :
    Better (L.foldl (reducer_argmax_f32_i32 (F := Ideal)) a) a ∧
    (∀ p ∈ L, Better (L.foldl (reducer_argmax_f32_i32 (F := Ideal)) a) p) ∧
    (L.foldl (reducer_argmax_f32_i32 (F := Ideal)) a = a ∨ L.foldl (reducer_argmax_f32_i32 (F := Ideal)) a ∈ L) := by
  induction L generalizing a with
  | nil => exact ⟨Better.refl _, by simp, .inl rfl⟩
  | cons b L ih =>
    obtain ⟨h1, h2, h3⟩ := ih (reducer_argmax_f32_i32 (F := Ideal) a b)
    obtain ⟨s1, s2, s3⟩ := reducer_spec a b
    rw [List.foldl_cons]
    refine ⟨h1.trans s1, ?_, ?_⟩
    · intro p hp
      rcases List.mem_cons.1 hp with rfl | hp
      · exact h1.trans s2
      · exact h2 p hp
    · rcases h3 with e | e
      · rw [e]
        rcases s3 with e' | e'
        · exact .inl e'
        · rw [e']; exact .inr (List.mem_cons_self ..)
      · exact .inr (List.mem_cons_of_mem _ e)

theorem reduces3 : S128x512x1000.Reduces [2] S128x512 := by decide

/-- The place of a class within the array. -/
theorem lift3 (b : Fin 128) (t : Fin 512) (c : Fin 1000) : reduces3.lift (ValueIdx.ix2 b t) c = ValueIdx.ix3 b t c := by
  funext a
  match a with
  | ⟨0, _⟩ => exact Fin.ext rfl
  | ⟨1, _⟩ => exact Fin.ext rfl
  | ⟨2, _⟩ => exact Fin.ext rfl

/-- The logarithms, read at an index. -/
theorem lpR_apply (x : FVec Ideal S128x512x1000 .f32) (i : S128x512x1000.Idx) : lpR (F := Ideal) x i = lg eps (x i) := by
  have e : lpR (F := Ideal) x i = FloatOps.hostUnary (F := Ideal) .log (FloatOps.addf (F := Ideal) (x i) (FloatOps.ofBits (F := Ideal) .f32 0x33D6BF95#32)) := rfl
  rw [e, Ideal.hostUnary_log_def, Ideal.addf_def, Ideal.ofBits_def, lg, eps]

/-- The pattern of the least value. -/
theorem bot_bits : FloatOps.ofBits (F := Ideal) .f32 0xFF800000#32 = (⊥ : EReal) := by
  rw [Ideal.ofBits_def]; simp [Ideal.ofBits, Ideal.ieee]

end Cert.Value.Ref
-- ==== Proof.Value.KernelRow.lean ====
/- The kernel's readings of one row of a block: its greatest value, the places holding it, and the logarithms' agreement. -/
module

public import proofs.«01_k».proof.Proof.Value.Rows
public import proofs.«01_k».proof.Proof.Value.RefArg
public import proofs.«01_k».proof.Proof.KernelIdeal.Ring
public import Idealize.ShloMosaic.Lib.KernelVsHost
public import Idealize.ShloMosaic.Lib.ValueIdxCore
public import Idealize.ShloMosaic.Lib.Pipeline.Value

@[expose] public section

noncomputable section

namespace Cert.Value.Ker

open Idealize.ShloMosaic Idealize.ShloMosaic.ValueIdx
open Cert.KernelIdeal Cert.KernelIdeal.Gen Cert.KernelIdeal.Hand Cert.Value.Rows
open Cert.Value.Ref (eps bot_bits ofBool_eq)

/-- One row's index in a column of rows. -/
abbrev at1 (t : Fin 512) : S512x1.Idx := ValueIdx.ix2 t (0 : Fin 1)

/-- Equality, compared. -/
theorem oeq_one (a b : EReal) : FloatOps.cmpf (F := Ideal) (φ := .f32) .oeq a b = 1#1 ↔ a = b := by
  rw [Ideal.cmpf_def]
  unfold Ideal.cmp
  rw [ofBool_eq, decide_eq_true_iff]

/-- The place of a lane within the rows. -/
theorem lift2 (t : Fin 512) (c : Fin 1000) : reduces_S512x1000_S512.lift (ValueIdx.ix1 t) c = ValueIdx.ix2 t c := by
  funext a
  match a with
  | ⟨0, _⟩ => exact Fin.ext rfl
  | ⟨1, _⟩ => exact Fin.ext rfl

/-- A reduction over the lanes by the maximum is the row's greatest value. -/
theorem rowMax (v : FVec Ideal S512x1000 .f32) (t : Fin 512) :
    IsTop (fun c => v (ValueIdx.ix2 t c))
      (multiReduction .maximumf [1] S512 v 0xFF800000#32 reduces_S512x1000_S512 (.inl rfl) rfl (ValueIdx.ix1 t)) := by
  have hf : multiReduction .maximumf [1] S512 v 0xFF800000#32 reduces_S512x1000_S512 (.inl rfl) rfl (ValueIdx.ix1 t)
      = (Finset.univ : Finset (Fin 1000)).fold max (FloatOps.ofBits (F := Ideal) .f32 0xFF800000#32) (v ∘ reduces_S512x1000_S512.lift (ValueIdx.ix1 t)) :=
    Ideal.multiReduction_maximumf_single v _ reduces_S512x1000_S512 (.inl rfl) rfl (ValueIdx.ix1 t)
  rw [hf, bot_bits]
  have e : v ∘ reduces_S512x1000_S512.lift (ValueIdx.ix1 t) = fun c : Fin 1000 => v (ValueIdx.ix2 t c) :=
    funext fun c => congrArg v (lift2 t c)
  rw [e]
  exact isTop_fold _

/-- A reduction over the lanes by the signed minimum is the fold over the lanes. -/
theorem rowMin (v : IVec S512x1000 32) (t : Fin 512) :
    multiReductionI .minsi [1] S512 v 2147483647#32 reduces_S512x1000_S512 rfl (ValueIdx.ix1 t)
      = Finset.univ.fold IntOp.minsi 2147483647#32 (fun c : Fin 1000 => v (ValueIdx.ix2 t c)) := by
  refine (multiReductionI_eq_fold .minsi v _ reduces_S512x1000_S512 rfl (ValueIdx.ix1 t)).trans ?_
  refine (reduces_S512x1000_S512.fold_filter_drop_single _ _ v (ValueIdx.ix1 t)).trans ?_
  have e : v ∘ reduces_S512x1000_S512.lift (ValueIdx.ix1 t) = fun c : Fin 1000 => v (ValueIdx.ix2 t c) :=
    funext fun c => congrArg v (lift2 t c)
  rw [e]
  rfl

/-- A vector stood up as a column. -/
theorem cast_col {α : Type} (v : S512.Idx → α) (t : Fin 512) : shapeCast S512x1 v shapeCasts_S512_S512x1 (at1 t) = v (ValueIdx.ix1 t) :=
  shapeCast_apply v _ _ _ (by
    rw [Shape.rowMajor_val_two, Shape.rowMajor_val_one]
    show t.val = t.val * 1 + 0
    omega)

/-- A column spread over the lanes. -/
theorem spread {α : Type} (v : S512x1.Idx → α) (t : Fin 512) (c : Fin 1000) :
    broadcastTo S512x1000 v broadcasts_S512x1_S512x1000 (ValueIdx.ix2 t c) = v (at1 t) :=
  broadcastTo_apply v _ _ _ (fun a => by
    match a with
    | ⟨0, _⟩ => rfl
    | ⟨1, _⟩ => rfl)

variable (x : Vec Ideal S1x512x1000 .f32) (t : Fin 512) (c : Fin 1000)

/-- The block's row, as lanes. -/
def lane (x : Vec Ideal S1x512x1000 .f32) (t : Fin 512) (c : Fin 1000) : EReal := x (ValueIdx.ix3 (0 : Fin 1) t c)

theorem pay2_at : k0_pay2 x (ValueIdx.ix2 t c) = lane x t c := by
  unfold k0_pay2
  exact shapeCast_apply x _ _ _ (by
    rw [Shape.rowMajor_val_two, Shape.rowMajor_val_three]
    show (0 * 512 + t.val) * 1000 + c.val = t.val * 1000 + c.val
    omega)

/-- The row's greatest value. -/
def top (x : Vec Ideal S1x512x1000 .f32) (t : Fin 512) : EReal := k0_pay3 x (at1 t)

theorem top_isTop : IsTop (lane x t) (top x t) := by
  unfold top k0_pay3
  rw [cast_col]
  have h := rowMax (k0_pay2 x) t
  have e : (fun c => k0_pay2 x (ValueIdx.ix2 t c)) = lane x t := funext fun c => pay2_at x t c
  rw [e] at h
  exact h

/-- The lanes holding the greatest value. -/
theorem pay4_one : k0_pay4 x (ValueIdx.ix2 t c) = 1#1 ↔ lane x t c = top x t := by
  have e : k0_pay4 x (ValueIdx.ix2 t c) = FloatOps.cmpf (F := Ideal) (φ := .f32) .oeq (k0_pay2 x (ValueIdx.ix2 t c))
      (broadcastTo S512x1000 (k0_pay3 x) broadcasts_S512x1_S512x1000 (ValueIdx.ix2 t c)) := rfl
  rw [e, spread, pay2_at, oeq_one]
  rfl

/-- The lanes' numbers. -/
theorem lanes_at : iota .tc S512x1000 32 [1] iota_S512x1000_d1_w32 (ValueIdx.ix2 t c) = BitVec.ofNat 32 c.val :=
  iota_single_apply _ _ _ _ _ _

/-- A choice by a bit that is set. -/
theorem sel_one {α : Type} {b : BitVec 1} (h : b = 1#1) (p q : α) : Scalar.select b p q = p := by
  subst h; rfl

/-- A choice by a bit that is not set. -/
theorem sel_zero {α : Type} {b : BitVec 1} (h : b ≠ 1#1) (p q : α) : Scalar.select b p q = q := by
  have : b = 0#1 := by
    revert h; revert b; decide
  subst this; rfl

/-- The first lane holding the greatest value, as the kernel finds it. -/
theorem pay5_at (i : Fin 1000) (hi : FirstMax (lane x t) i) (hv : lane x t i = top x t) :
    k0_pay5 (iota .tc S512x1000 32 [1] iota_S512x1000_d1_w32) x (at1 t) = BitVec.ofNat 32 i.val := by
  unfold k0_pay5
  rw [cast_col, rowMin]
  refine fold_minsi_first (fun c => lane x t c = top x t) _ ?_ ?_ i hv (fun j hj => hv ▸ hi.2 j hj)
  · intro c hc
    exact (sel_one ((pay4_one x t c).2 hc) _ _).trans (lanes_at t c)
  · intro c hc
    exact sel_zero (fun h => hc ((pay4_one x t c).1 h)) _ _

/-- The logarithm of a value moved by the fixed amount, as the kernel takes it. -/
theorem log_at (a : EReal) : FloatOps.log (F := Ideal) (φ := .f32) (FloatOps.addf (F := Ideal) a (FloatOps.ofBits (F := Ideal) .f32 0x33D6BF95#32)) = lg eps a := by
  rw [Ideal.log_def, Ideal.addf_def, Ideal.ofBits_def, lg, eps]

theorem pay6_gen {F : FTy → Type} [FloatOps F] (x : Vec F S1x512x1000 .f32) (i : S512x1.Idx) :
    k0_pay6 x i = FloatOps.log (FloatOps.addf (k0_pay3 x i) (FloatOps.ofBits .f32 0x33D6BF95#32)) := rfl

theorem pay7_gen {F : FTy → Type} [FloatOps F] (x : Vec F S1x512x1000 .f32) (i : S512x1.Idx) :
    k0_pay7 x i = FloatOps.cmpf .oeq (FloatOps.log (FloatOps.addf
        (shapeCast S512x1 (multiReduction .maximumf [1] S512 (select (k0_pay4 x) (broadcast S512x1000 (Scalar.ofBits .f32 0xFF800000#32)) (k0_pay2 x)) 0xFF800000#32 reduces_S512x1000_S512 (.inl rfl) rfl) shapeCasts_S512_S512x1 i)
        (FloatOps.ofBits .f32 0x33D6BF95#32))) (k0_pay6 x i) := rfl

theorem pay6_at : k0_pay6 x (at1 t) = lg eps (top x t) := by
  rw [pay6_gen, log_at, top]

/-- The bit of a row says whether the greatest value below the top has the top's logarithm. -/
theorem pay7_spec : ∃ m : EReal, (∀ c, lane x t c ≠ top x t → lane x t c ≤ m) ∧ m ≤ top x t ∧
    (k0_pay7 x (at1 t) = 1#1 ↔ lg eps m = lg eps (top x t)) := by
  have h := rowMax (select (k0_pay4 x) (broadcast S512x1000 (Scalar.ofBits (F := Ideal) .f32 0xFF800000#32)) (k0_pay2 x)) t
  have h1 : ∀ c, lane x t c = top x t → select (k0_pay4 x) (broadcast S512x1000 (Scalar.ofBits (F := Ideal) .f32 0xFF800000#32)) (k0_pay2 x) (ValueIdx.ix2 t c) = (⊥ : EReal) :=
    fun c hc => (sel_one ((pay4_one x t c).2 hc) _ _).trans bot_bits
  have h0 : ∀ c, lane x t c ≠ top x t → select (k0_pay4 x) (broadcast S512x1000 (Scalar.ofBits (F := Ideal) .f32 0xFF800000#32)) (k0_pay2 x) (ValueIdx.ix2 t c) = lane x t c :=
    fun c hc => (sel_zero (fun h => hc ((pay4_one x t c).1 h)) _ _).trans (pay2_at x t c)
  refine ⟨multiReduction .maximumf [1] S512 (select (k0_pay4 x) (broadcast S512x1000 (Scalar.ofBits (F := Ideal) .f32 0xFF800000#32)) (k0_pay2 x)) 0xFF800000#32 reduces_S512x1000_S512 (.inl rfl) rfl (ValueIdx.ix1 t), fun c hc => ?_, ?_, ?_⟩
  · exact (h0 c hc).ge.trans (h.1 c)
  · obtain ⟨c, hc⟩ := h.2
    rw [← hc]
    by_cases he : lane x t c = top x t
    · exact (h1 c he).le.trans bot_le
    · exact (h0 c he).le.trans ((top_isTop x t).1 c)
  · rw [pay7_gen, oeq_one, log_at, pay6_at, cast_col]

end Cert.Value.Ker
-- ==== Proof.Value.KernelArg.lean ====
/- The kernel's winner of a row is the first place of the row's greatest logarithm. -/
module

public import proofs.«01_k».proof.Proof.Value.KernelRow
public import Idealize.ShloMosaic.Lib.IdealHost

@[expose] public section

noncomputable section

namespace Cert.Value.Ker

open Idealize.ShloMosaic Idealize.ShloMosaic.ValueIdx
open Cert.KernelIdeal Cert.KernelIdeal.Gen Cert.KernelIdeal.Hand Cert.Value.Rows
open Cert.Value.Ref (eps bot_bits ofBool_eq)

/-- A column with a leading unit axis. -/
theorem cast_lead {α : Type} (v : S512x1.Idx → α) (t : Fin 512) :
    shapeCast S1x512x1 v shapeCasts_S512x1_S1x512x1 (ValueIdx.ix3 (0 : Fin 1) t (0 : Fin 1)) = v (at1 t) :=
  shapeCast_apply v _ _ _ (by
    rw [Shape.rowMajor_val_two, Shape.rowMajor_val_three]
    show t.val * 1 + 0 = (0 * 512 + t.val) * 1 + 0
    omega)

/-- A column cast to its own shape. -/
theorem cast_self {α : Type} (v : S512x1.Idx → α) (t : Fin 512) :
    shapeCast S512x1 v shapeCasts_S512x1_S512x1 (at1 t) = v (at1 t) :=
  shapeCast_apply v _ _ _ rfl

/-- The one entry of a unit cube. -/
theorem extract_one {α : Type} (v : S1.Idx → α) :
    extractAt ![0, 0, 0] (shapeCast S1x1x1 v shapeCasts_S1_S1x1x1) inpos_S1x1x1_p0_0_0 = v (ValueIdx.ix1 (0 : Fin 1)) := by
  unfold extractAt
  exact shapeCast_apply v _ _ _ (by
    rw [Shape.rowMajor_val_one, Shape.rowMajor_val_three]
    rfl)

/-- Nothing but one index in the unit shape. -/
theorem drop_one (i : S1x512x1.Idx) (j : S1.Idx) : reduces_S1x512x1_S1.drop i = j := by
  funext a
  match a with
  | ⟨0, _⟩ => exact Subsingleton.elim (α := Fin 1) _ _

variable (x : Vec Ideal S1x512x1000 .f32)

theorem pay9_gen {F : FTy → Type} [FloatOps F] (x : Vec F S1x512x1000 .f32) :
    k0_pay9 x = shapeCast S1x512x1 (select (k0_pay7 x) (broadcast S512x1 (Scalar.ofBits .f32 0x3F800000#32)) (broadcast S512x1 (Scalar.ofBits .f32 0x00000000#32))) shapeCasts_S512x1_S1x512x1 := rfl

theorem pay11_gen {F : FTy → Type} [FloatOps F] (v : FVec F S1x512x1 .f32) :
    k0_pay11 v = extractAt ![0, 0, 0] (shapeCast S1x1x1 (multiReduction .maximumf [1, 2] S1 v 0xFF800000#32 reduces_S1x512x1_S1 (.inl rfl) rfl) shapeCasts_S1_S1x1x1) inpos_S1x1x1_p0_0_0 := rfl

/-- The greatest entry of a column bounds each of them. -/
theorem pay11_ge (v : FVec Ideal S1x512x1 .f32) (i : S1x512x1.Idx) : v i ≤ k0_pay11 v := by
  rw [pay11_gen, extract_one]
  have hf : multiReduction .maximumf [1, 2] S1 v 0xFF800000#32 reduces_S1x512x1_S1 (.inl rfl) rfl (ValueIdx.ix1 (0 : Fin 1))
      = (Finset.univ.filter fun i => reduces_S1x512x1_S1.drop i = ValueIdx.ix1 (0 : Fin 1)).fold max (FloatOps.ofBits (F := Ideal) .f32 0xFF800000#32) v :=
    multiReduction_maximumf_eq_fold v _ reduces_S1x512x1_S1 (.inl rfl) rfl (ValueIdx.ix1 (0 : Fin 1))
  rw [hf, bot_bits]
  exact (fold_max_spec _ v).1 i (Finset.mem_filter.2 ⟨Finset.mem_univ _, drop_one i _⟩)

theorem one_bits : FloatOps.ofBits (F := Ideal) .f32 0x3F800000#32 = (1 : EReal) := by
  rw [Ideal.ofBits_def, Ideal.ofBits_one_f32]

theorem zero_bits : FloatOps.ofBits (F := Ideal) .f32 0x00000000#32 = (0 : EReal) := by
  rw [Ideal.ofBits_def, Ideal.ofBits_zero_f32]

theorem redo_gen {F : FTy → Type} [FloatOps F] (x : Vec F S1x512x1000 .f32) :
    redo x = Scalar.cmpi .ne (Scalar.extui (Scalar.cmpf .ogt (k0_pay11 (k0_pay9 x)) (Scalar.ofBits .f32 0x00000000#32)) : BitVec 32) 0#32 := by
  unfold redo
  rfl

/-- A word made of a set bit is not zero. -/
theorem ext_ne : ∀ b : BitVec 1, b = 1#1 → Scalar.cmpi .ne (Scalar.extui b : BitVec 32) 0#32 = 1#1 := by decide

/-- A greatest entry above zero makes the block be redone. -/
theorem redo_one {F : FTy → Type} [FloatOps F] (x : Vec F S1x512x1000 .f32)
    (h : Scalar.cmpf .ogt (k0_pay11 (k0_pay9 x)) (FloatOps.ofBits .f32 0x00000000#32) = 1#1) : redo x = 1#1 := by
  rw [redo_gen]
  exact ext_ne _ h

/-- The marks of a block, read at a row. -/
theorem pay9_at {F : FTy → Type} [FloatOps F] (x : Vec F S1x512x1000 .f32) (t : Fin 512) :
    k0_pay9 x (ValueIdx.ix3 (0 : Fin 1) t (0 : Fin 1))
      = Scalar.select (k0_pay7 x (at1 t)) (FloatOps.ofBits .f32 0x3F800000#32) (FloatOps.ofBits .f32 0x00000000#32) := by
  rw [pay9_gen, cast_lead]
  rfl

/-- A number that is one or more is above zero, compared. -/
theorem ogt_one (a : EReal) (h : 1 ≤ a) : Scalar.cmpf (F := Ideal) (φ := .f32) .ogt a (FloatOps.ofBits (F := Ideal) .f32 0x00000000#32) = 1#1 := by
  rw [zero_bits, Ideal.scalar_cmpf_def]
  unfold Ideal.cmp
  rw [ofBool_eq, decide_eq_true_iff]
  exact lt_of_lt_of_le zero_lt_one h

/-- A row whose bit is set makes the block be redone. -/
theorem redo_of (t : Fin 512) (h : k0_pay7 x (at1 t) = 1#1) : redo x = 1#1 := by
  have h2 := pay11_ge (k0_pay9 x) (ValueIdx.ix3 (0 : Fin 1) t (0 : Fin 1))
  rw [pay9_at, sel_one h, one_bits] at h2
  exact redo_one x (ogt_one _ h2)

theorem pay8_gen {F : FTy → Type} [FloatOps F] (v : IVec S512x1000 32) (x : Vec F S1x512x1000 .f32) :
    k0_pay8 v x = shapeCast S512x1 (k0_pay5 v x) shapeCasts_S512x1_S512x1 := rfl

/-- The first lane whose logarithm is the top's, or the winner already found. -/
theorem pay12_gen {F : FTy → Type} [FloatOps F] (v422 : FVec F S512x1000 .f32) (v430 : IVec S512x1 32) (v437 : FVec F S512x1 .f32) (v441 : IVec S512x1 1) :
    k0_pay12 v422 v430 v437 v441 = shapeCast S512x1 (select v441 (shapeCast S512x1 (multiReductionI .minsi [1] S512
      (select (cmpf .oeq (log (addf v422 (broadcast S512x1000 (Scalar.ofBits .f32 0x33D6BF95#32)))) (broadcastTo S512x1000 v437 broadcasts_S512x1_S512x1000))
        (iota .tc S512x1000 32 [1] iota_S512x1000_d1_w32) (broadcast S512x1000 1000#32)) 2147483647#32 reduces_S512x1000_S512 rfl) shapeCasts_S512_S512x1) v430) shapeCasts_S512x1_S512x1 := rfl

/-- The lanes' logarithms compared with the top's. -/
theorem cmp_gen {F : FTy → Type} [FloatOps F] (v : FVec F S512x1000 .f32) (w : FVec F S512x1 .f32) (i : S512x1000.Idx) :
    cmpf .oeq (log (addf v (broadcast S512x1000 (Scalar.ofBits .f32 0x33D6BF95#32)))) (broadcastTo S512x1000 w broadcasts_S512x1_S512x1000) i
      = FloatOps.cmpf .oeq (FloatOps.log (FloatOps.addf (v i) (FloatOps.ofBits .f32 0x33D6BF95#32))) (broadcastTo S512x1000 w broadcasts_S512x1_S512x1000 i) := rfl

theorem cmp_one (t : Fin 512) (c : Fin 1000) :
    cmpf .oeq (log (addf (k0_pay2 x) (broadcast S512x1000 (Scalar.ofBits (F := Ideal) .f32 0x33D6BF95#32)))) (broadcastTo S512x1000 (k0_pay6 x) broadcasts_S512x1_S512x1000) (ValueIdx.ix2 t c) = 1#1
      ↔ lg eps (lane x t c) = lg eps (top x t) := by
  rw [cmp_gen, oeq_one, log_at, pay2_at, spread, pay6_at]

/-- The kernel's winner of a row is the first place of the greatest logarithm. -/
theorem win_spec (t : Fin 512) :
    ∃ i : Fin 1000, FirstMax (fun c => lg eps (lane x t c)) i ∧ win x (at1 t) = BitVec.ofNat 32 i.val := by
  obtain ⟨i, hi, hv⟩ := (top_isTop x t).first
  have h5 := pay5_at x t i hi hv
  obtain ⟨m, hm, hmt, h7⟩ := pay7_spec x t
  have apart : k0_pay7 x (at1 t) ≠ 1#1 → FirstMax (fun c => lg eps (lane x t c)) i := fun h =>
    first_of_apart eps (top_isTop x t) hm hmt (fun e => h (h7.2 e)) hi hv
  unfold win
  by_cases hr : redo x = 1#1
  · rw [if_pos hr, pay12_gen, cast_self]
    by_cases h : k0_pay7 x (at1 t) = 1#1
    · obtain ⟨k, hk, hkv⟩ := ((top_isTop x t).lg eps).first
      refine ⟨k, hk, (sel_one h _ _).trans ?_⟩
      rw [cast_col, rowMin]
      refine fold_minsi_first (fun c => lg eps (lane x t c) = lg eps (top x t)) _ ?_ ?_ k hkv (fun j hj e => hk.2 j hj (e.trans hkv.symm))
      · intro c hc
        exact (sel_one ((cmp_one x t c).2 hc) _ _).trans (lanes_at t c)
      · intro c hc
        exact sel_zero (fun h => hc ((cmp_one x t c).1 h)) _ _
    · exact ⟨i, apart h, (sel_zero h _ _).trans h5⟩
  · rw [if_neg hr]
    refine ⟨i, apart (fun h => hr (redo_of x t h)), ?_⟩
    rw [pay8_gen, cast_self]
    exact h5

end Cert.Value.Ker
-- ==== Proof.Value.RefCls.lean ====
/- The reference's class of a step is the first place of the row's greatest logarithm. -/
module

public import proofs.«01_k».proof.Proof.Reference.Run
public import proofs.«01_k».proof.Proof.Value.RefArg
public import Idealize.ShloMosaic.Lib.KernelVsHost
public import Idealize.ShloMosaic.Lib.Pipeline.Value

@[expose] public section

noncomputable section

namespace Cert.Value.Ref

open Idealize.ShloMosaic Idealize.ShloMosaic.ValueIdx
open Cert.ReferenceIdeal Cert.ReferenceIdeal.Gen Cert.ReferenceIdeal.Hand Cert.Value.Rows

/-- The classes as the second halves of the search. -/
theorem clsR_eq {F : FTy → Type} [FloatOps F] : @clsR F _ = fun x j =>
    (Host.argReduce reducer_argmax_f32_i32 (lpR x) (iotaInDim S128x512x1000 32 2) (constant S_ .f32 0xFF800000#32) (constantI S_ 32 0#32)
      reducesTo_S128x512x1000_S128x512_d2 h_S_ j).2 := rfl

/-- The class the reference finds is the first place of the greatest logarithm. -/
theorem clsR_spec (x : FVec Ideal S128x512x1000 .f32) (b : Fin 128) (t : Fin 512) :
    ∃ i : Fin 1000, FirstMax (fun c => lg eps (x (ValueIdx.ix3 b t c))) i ∧ clsR (F := Ideal) x (ValueIdx.ix2 b t) = BitVec.ofNat 32 i.val := by
  rw [clsR_eq]
  beta_reduce
  rw [Ideal.argReduce_eq_reduce2, Host.reduce2_eq_foldl_fiber]
  obtain ⟨h1, h2, h3⟩ := foldl_spec (Host.argReduceFiber (lpR (F := Ideal) x) (iotaInDim S128x512x1000 32 2) reducesTo_S128x512x1000_S128x512_d2 (ValueIdx.ix2 b t))
    ((constant (F := Ideal) S_ .f32 0xFF800000#32) (Shape.Idx.first h_S_), (constantI S_ 32 0#32) (Shape.Idx.first h_S_))
  have hmem : ∀ c : Fin 1000, (lg eps (x (ValueIdx.ix3 b t c)), BitVec.ofNat 32 c.val) ∈
      Host.argReduceFiber (lpR (F := Ideal) x) (iotaInDim S128x512x1000 32 2) reducesTo_S128x512x1000_S128x512_d2 (ValueIdx.ix2 b t) := by
    intro c
    refine List.mem_map.2 ⟨S128x512x1000.rowMajor (ValueIdx.ix3 b t c), List.mem_filter.2 ⟨List.mem_finRange _, ?_⟩, ?_⟩
    · rw [Equiv.symm_apply_apply, decide_eq_true_iff, Shape.ReducesTo.drop_eq_drop _ reduces3, ← lift3]
      exact reduces3.drop_lift (ValueIdx.ix2 b t) c
    · rw [Equiv.symm_apply_apply, lpR_apply]; rfl
  have hmem' : ∀ p ∈ Host.argReduceFiber (lpR (F := Ideal) x) (iotaInDim S128x512x1000 32 2) reducesTo_S128x512x1000_S128x512_d2 (ValueIdx.ix2 b t),
      ∃ c : Fin 1000, p = (lg eps (x (ValueIdx.ix3 b t c)), BitVec.ofNat 32 c.val) := by
    intro p hp
    obtain ⟨n, hn, rfl⟩ := List.mem_map.1 hp
    have hd := of_decide_eq_true (List.mem_filter.1 hn).2
    rw [Shape.ReducesTo.drop_eq_drop _ reduces3] at hd
    have hl := reduces3.lift_drop (S128x512x1000.rowMajor.symm n)
    rw [hd] at hl
    refine ⟨(S128x512x1000.rowMajor.symm n) 2, ?_⟩
    have hl' := hl.symm.trans (lift3 b t _)
    exact Prod.ext (by rw [← hl', ← lpR_apply]) rfl
  generalize List.foldl _ _ _ = r at h1 h2 h3 ⊢
  have hb : ∀ c : Fin 1000, Better r (lg eps (x (ValueIdx.ix3 b t c)), BitVec.ofNat 32 c.val) := fun c => h2 _ (hmem c)
  rcases h3 with e | e
  · refine ⟨0, ?_, by rw [e]; rfl⟩
    have hz : ∀ c : Fin 1000, lg eps (x (ValueIdx.ix3 b t c)) = ⊥ := by
      intro c
      have hbot : r.1 = (⊥ : EReal) := by
        rw [e]; exact bot_bits
      rcases hb c with h | ⟨h, -⟩
      · rw [hbot] at h; exact absurd h not_lt_bot
      · exact h.trans hbot
    exact ⟨fun j => by simp only [hz]; exact le_rfl, fun j hj => absurd hj (by simp)⟩
  · obtain ⟨i, rfl⟩ := hmem' r e
    refine ⟨i, ⟨fun j => ?_, fun j hj he => ?_⟩, rfl⟩
    · rcases hb j with h | ⟨h, -⟩
      · exact h.le
      · exact h.le
    · rcases hb j with h | ⟨-, h⟩
      · exact absurd he h.ne
      · have h' : (BitVec.ofNat 32 i.val).toInt ≤ (BitVec.ofNat 32 j.val).toInt := h
        rw [toInt_ofNat_small _ (by omega), toInt_ofNat_small _ (by omega)] at h'
        have := Fin.lt_def.1 hj
        omega

end Cert.Value.Ref
-- ==== Proof.Value.Stages.lean ====
module

public import proofs.«01_k».proof.Proof.KernelIdeal.Body

@[expose] public section

noncomputable section

namespace Cert.Value

open Idealize.ShloMosaic
open Cert.KernelIdeal Cert.KernelIdeal.Gen Cert.KernelIdeal.Hand

variable {F : FTy → Type} [FloatOps F]

/-! ## The decoding written as one repeated stage -/

/-- Columns of words: one word per step and batch. -/
abbrev W : Type := IVec S512x128 32

/-- The step's number at each place. -/
def it : W := iota .tc S512x128 32 [0] iota_S512x128_d0_w32
/-- A word at every place. -/
def bc (n : BitVec 32) : W := broadcast S512x128 n
/-- The columns turned by `n` steps. -/
def rot (n : BitVec 32) (x : W) : W := dynamicRotate 0 n none x rotates_S512x128_d0
/-- Which places take the word that lies `512 - r` steps further on. -/
def take (r k : BitVec 32) (v s : W) : IVec S512x128 1 :=
  andi (andi (cmpi .slt it (bc r)) (cmpi .sge (rot r v) (bc 0#32))) (cmpi .eq (andi (shrsi (rot r s) (bc k)) (bc 1#32)) (bc 1#32))
/-- Which places keep the word they have. -/
def stay (k : BitVec 32) (v s : W) : IVec S512x128 1 :=
  andi (cmpi .sge v (bc 0#32)) (cmpi .eq (andi (shrsi s (bc k)) (bc 1#32)) (bc 0#32))
/-- The words after a stage. -/
def stV (r k : BitVec 32) (v s : W) : W := select (take r k v s) (rot r v) (select (stay k v s) v (bc 4294967295#32))
/-- The distances still to go after a stage. -/
def stS (r k sh : BitVec 32) (v s : W) : W := select (take r k v s) (subi (rot r s) (bc sh)) (select (stay k v s) s (bc 0#32))

/-- The last stage, transposed. -/
def d8 (v s : W) : IVec S128x512 32 := transpose S128x512 [1, 0] (stV 256#32 8#32 v s) transposes_S512x128_p1_0_S128x512

/-- From stage 5's cut on. -/
def e5 (v316 v321 v322 v323 : W) (v335 v337 : IVec S512x128 1) (v338 : W) : IVec S128x512 32 :=
  k0_pay1 it (k0_pay68 v321 v323 v335 v337 v338) (k0_pay71 it v316 v321 v322 v323 v335 v337 v338) (k0_pay72 v316 v321 v322 v323 v335 v337 v338)
    (k0_pay73 it v316 v321 v322 v323 v335 v337 v338) (k0_pay74 v321 v323 v335 v337 v338)
/-- From stage 4's cut on. -/
def e4 (v285 v290 v291 v292 : W) (v297 : IVec S512x128 1) : IVec S128x512 32 :=
  e5 (k0_pay59 v285 v290 v291 v292 v297) (k0_pay60 v285 v290 v292 v297) (k0_pay61 v285 v290 v291 v292 v297) (k0_pay62 v285 v290 v292 v297)
    (k0_pay63 it v285 v290 v291 v292 v297) (k0_pay64 v285 v290 v291 v292 v297) k0_pay65
/-- From stage 3's cut on. -/
def e3 (v228 : W) (v242 v251 : IVec S512x128 1) (v254 v256 : W) : IVec S128x512 32 :=
  e4 (k0_pay52 it v228 v242 v251 v254 v256) (k0_pay53 it v228 v242 v251 v254 v256) (k0_pay54 it v228 v242 v251 v254 v256)
    (k0_pay55 it v228 v242 v251 v254 v256) (k0_pay56 it v228 v242 v251 v254 v256)
/-- From stage 2's cut on. -/
def e2 (v192 v197 v198 v199 : W) (v211 v213 : IVec S512x128 1) (v214 : W) : IVec S128x512 32 :=
  e3 (k0_pay40 v197 v199 v211 v213 v214) (k0_pay43 it v192 v197 v198 v199 v211 v213 v214) (k0_pay44 v192 v197 v198 v199 v211 v213 v214)
    (k0_pay45 it v192 v197 v198 v199 v211 v213 v214) (k0_pay46 v197 v199 v211 v213 v214)
/-- From stage 1's cut on. -/
def e1 (v161 v166 v167 v168 : W) (v173 : IVec S512x128 1) : IVec S128x512 32 :=
  e2 (k0_pay31 v161 v166 v167 v168 v173) (k0_pay32 v161 v166 v168 v173) (k0_pay33 v161 v166 v167 v168 v173) (k0_pay34 v161 v166 v168 v173)
    (k0_pay35 it v161 v166 v167 v168 v173) (k0_pay36 v161 v166 v167 v168 v173) k0_pay37

/-- The stages from 1 on … -/
def d1 (v s : W) : IVec S128x512 32 := e1 v s (rot 510#32 v) (rot 510#32 s) (andi (cmpi .slt it (bc 510#32)) (cmpi .sge (rot 510#32 v) (bc 0#32)))
/-- … from 2 on … -/
def d2 (v s : W) : IVec S128x512 32 := e2 v s (rot 508#32 v) (rot 508#32 s) (take 508#32 2#32 v s) (cmpi .sge v (bc 0#32)) k0_pay37
/-- … from 3 on … -/
def d3 (v s : W) : IVec S128x512 32 := e3 s (take 504#32 3#32 v s) (stay 3#32 v s) (stV 504#32 3#32 v s) (subi (rot 504#32 s) (bc 8#32))
/-- … from 4 on, of the words and the distances … -/
def d4 (v s : W) : IVec S128x512 32 :=
  e4 (stV 496#32 4#32 v s) (stS 496#32 4#32 16#32 v s) (rot 480#32 (stV 496#32 4#32 v s)) (rot 480#32 (stS 496#32 4#32 16#32 v s))
    (andi (cmpi .slt it (bc 480#32)) (cmpi .sge (rot 480#32 (stV 496#32 4#32 v s)) (bc 0#32)))
/-- … from 5 on … -/
def d5 (v s : W) : IVec S128x512 32 := e4 v s (rot 480#32 v) (rot 480#32 s) (andi (cmpi .slt it (bc 480#32)) (cmpi .sge (rot 480#32 v) (bc 0#32)))
/-- … from 6 on … -/
def d6 (v s : W) : IVec S128x512 32 := e5 v s (rot 448#32 v) (rot 448#32 s) (take 448#32 6#32 v s) (cmpi .sge v (bc 0#32)) k0_pay65
/-- … and from 7 on. -/
def d7 (v s : W) : IVec S128x512 32 :=
  k0_pay1 it s (take 384#32 7#32 v s) (stay 7#32 v s) (stV 384#32 7#32 v s) (subi (rot 384#32 s) (bc 128#32))

theorem d7_eq (v s : W) : d7 v s = d8 (stV 384#32 7#32 v s) (stS 384#32 7#32 128#32 v s) := rfl
theorem d6_eq (v s : W) : d6 v s = d7 (stV 448#32 6#32 v s) (stS 448#32 6#32 64#32 v s) := rfl
theorem d5_eq (v s : W) : d5 v s = d6 (stV 480#32 5#32 v s) (stS 480#32 5#32 32#32 v s) := rfl
theorem d4_eq (v s : W) : d4 v s = d5 (stV 496#32 4#32 v s) (stS 496#32 4#32 16#32 v s) := rfl
theorem d3_eq (v s : W) : d3 v s = d4 (stV 504#32 3#32 v s) (stS 504#32 3#32 8#32 v s) := rfl
theorem d2_eq (v s : W) : d2 v s = d3 (stV 508#32 2#32 v s) (stS 508#32 2#32 4#32 v s) := rfl
theorem d1_eq (v s : W) : d1 v s = d2 (stV 510#32 1#32 v s) (stS 510#32 1#32 2#32 v s) := rfl

/-- One step of the running count. -/
def cs (n : BitVec 32) (c : W) : W := addi c (select (cmpi .sge it (bc n)) (rot n c) (bc 0#32))
/-- The running count of a mask. -/
def cnt (m : IVec S512x128 1) : W :=
  cs 256#32 (cs 128#32 (cs 64#32 (cs 32#32 (cs 16#32 (cs 8#32 (cs 4#32 (cs 2#32 (cs 1#32 (extui 32 m natLt_1_32)))))))))
/-- The steps kept: those whose class differs from the one before and is not the blank. -/
def keepK (x : W) : IVec S512x128 1 :=
  andi (cmpi .ne x (select (cmpi .eq it (bc 0#32)) (bc 4294967295#32) (rot 1#32 x))) (cmpi .ne x (bc 999#32))
/-- The words before the first stage. -/
def v0K (x : W) : W := select (keepK x) x (bc 4294967295#32)
/-- The distances before the first stage. -/
def s0K (x : W) : W := select (keepK x) (subi it (subi (cnt (keepK x)) (bc 1#32))) (bc 0#32)

theorem keep_eq (x : W) : k0_pay15 (F := F) x = keepK x := rfl
theorem cnt_eq (x : W) : k0_pay17 it (k0_pay16 (F := F) x) = subi (cnt (keepK x)) (bc 1#32) := rfl
theorem stage0_eq (x : W) (m : IVec S512x128 1) (p : W) :
    e1 (k0_pay24 (F := F) it m p (k0_pay18 (F := F) x m)) (k0_pay25 (F := F) it m p (k0_pay18 (F := F) x m)) (k0_pay26 (F := F) it m p (k0_pay18 (F := F) x m))
      (k0_pay27 (F := F) it m p (k0_pay18 (F := F) x m)) (k0_pay28 (F := F) it m p (k0_pay18 (F := F) x m))
    = d1 (stV 511#32 0#32 (select m x (bc 4294967295#32)) (select m (subi it p) (bc 0#32)))
        (stS 511#32 0#32 1#32 (select m x (bc 4294967295#32)) (select m (subi it p) (bc 0#32))) := rfl
theorem dec_eq' (x : W) : dec (F := F) x = d1 (stV 511#32 0#32 (v0K x) (s0K x)) (stS 511#32 0#32 1#32 (v0K x) (s0K x)) := by
  unfold v0K s0K
  rw [← stage0_eq (F := F) x (keepK x), ← cnt_eq (F := F), ← keep_eq (F := F)]
  rfl

end Cert.Value

end
-- ==== Proof.Value.Compact.lean ====
/- Moving the kept entries of a column to its front, as facts about numbers: what nine halving steps do, and what a sort does. -/
module

public import Mathlib.Data.Nat.Count
public import Mathlib.Data.Fintype.Card
public import Mathlib.Order.Interval.Finset.Fin
public import Mathlib.Tactic.Ring
public import Mathlib.Tactic.Linarith

@[expose] public section

namespace Cert.Value

/-- Column `o` holds the kept entries of `v` in order from place 0 on, and -1 after them. -/
def Compact (keep : ℕ → Prop) [DecidablePred keep] (v o : ℕ → BitVec 32) : Prop :=
  ∀ p < 512, (∃ i < 512, keep i ∧ Nat.count keep i = p ∧ o p = v i) ∨ ((∀ i < 512, keep i → Nat.count keep i ≠ p) ∧ o p = 4294967295#32)

/-- Such a column is unique. -/
theorem Compact.unique {keep : ℕ → Prop} [DecidablePred keep] {v o o' : ℕ → BitVec 32} (h : Compact keep v o) (h' : Compact keep v o')
    (p : ℕ) (hp : p < 512) : o p = o' p := by
  rcases h p hp with ⟨i, hi, ki, ci, e⟩ | ⟨n, e⟩ <;> rcases h' p hp with ⟨j, hj, kj, cj, e'⟩ | ⟨n', e'⟩
  · have : i = j := Nat.count_injective ki kj (ci.trans cj.symm)
    subst this; rw [e, e']
  · exact absurd ci (n' i hi ki)
  · exact absurd cj (n j hj kj)
  · rw [e, e']

/-- Before step `k`: place `p` holds the kept entry `i` whose distance's low `k` bits have been moved, and the rest of that distance. -/
def Inv (keep : ℕ → Prop) (v : ℕ → BitVec 32) (d : ℕ → ℕ) (m : ℕ) (V S : ℕ → BitVec 32) : Prop :=
  ∀ p < 512, (∃ i < 512, keep i ∧ p + d i % m = i ∧ V p = v i ∧ S p = BitVec.ofNat 32 (d i - d i % m))
    ∨ ((∀ i < 512, keep i → p + d i % m ≠ i) ∧ V p = 4294967295#32)

/-- Two kept entries are never at one place. -/
theorem inv_unique {d : ℕ → ℕ} {m i j p : ℕ} (hm : 0 < m) (hij : i < j) (h1 : d i ≤ d j) (h2 : d j + i < d i + j)
    (hi : p + d i % m = i) (hj : p + d j % m = j) : False := by
  have e1 := Nat.div_add_mod (d i) m
  have e2 := Nat.div_add_mod (d j) m
  have l1 := Nat.mod_lt (d i) hm
  have l2 := Nat.mod_lt (d j) hm
  rcases Nat.lt_or_ge (d j / m) (d i / m) with h | h
  · have : m * (d j / m + 1) ≤ m * (d i / m) := Nat.mul_le_mul_left m h
    rw [Nat.mul_add] at this
    omega
  · have : m * (d i / m) ≤ m * (d j / m) := Nat.mul_le_mul_left m h
    omega

/-- One bit of a distance below 512. -/
theorem bit_eq (d k : ℕ) (hd : d < 512) : ((BitVec.ofNat 32 d).sshiftRight k &&& 1#32) = BitVec.ofNat 32 (d / 2 ^ k % 2) := by
  rw [BitVec.sshiftRight_eq_of_msb_false]
  · apply BitVec.eq_of_toNat_eq
    rw [BitVec.toNat_and, BitVec.toNat_ushiftRight, BitVec.toNat_ofNat, BitVec.toNat_ofNat, BitVec.toNat_ofNat, Nat.mod_eq_of_lt (by omega : d < 2 ^ 32),
      Nat.shiftRight_eq_div_pow, show 1 % 2 ^ 32 = 1 from rfl, Nat.and_one_is_mod]
    omega
  · rw [BitVec.msb_eq_decide, BitVec.toNat_ofNat]
    simp only [decide_eq_false_iff_not]
    omega

theorem mod_two_mul (x m : ℕ) : x % (m * 2) = x % m + m * (x / m % 2) := Nat.mod_mul

/-- A step of the halving moves by one more bit. -/
theorem inv_step {keep : ℕ → Prop} {v : ℕ → BitVec 32} {d : ℕ → ℕ} (hd : ∀ i < 512, keep i → d i ≤ i)
    (hdd : ∀ i j, i < j → j < 512 → keep i → keep j → d i ≤ d j ∧ d j + i < d i + j)
    (hv : ∀ i < 512, keep i → 0 ≤ (v i).toInt) (k : ℕ) (hk : k < 9) (V S V' S' : ℕ → BitVec 32) (h : Inv keep v d (2 ^ k) V S)
    (hV : ∀ p < 512, V' p = if p + 2 ^ k < 512 ∧ 0 ≤ (V (p + 2 ^ k)).toInt ∧ ((S (p + 2 ^ k)).sshiftRight k &&& 1#32) = 1#32 then V (p + 2 ^ k)
      else if 0 ≤ (V p).toInt ∧ ((S p).sshiftRight k &&& 1#32) = 0#32 then V p else 4294967295#32)
    (hS : ∀ p < 512, S' p = if p + 2 ^ k < 512 ∧ 0 ≤ (V (p + 2 ^ k)).toInt ∧ ((S (p + 2 ^ k)).sshiftRight k &&& 1#32) = 1#32 then S (p + 2 ^ k) - BitVec.ofNat 32 (2 ^ k)
      else if 0 ≤ (V p).toInt ∧ ((S p).sshiftRight k &&& 1#32) = 0#32 then S p else 0#32) :
    Inv keep v d (2 ^ (k + 1)) V' S' := by
  have hm : 0 < 2 ^ k := Nat.pos_of_ne_zero (by positivity)
  have neg : ¬ (0 : ℤ) ≤ (4294967295#32).toInt := by decide
  have bit : ∀ i < 512, keep i → ((BitVec.ofNat 32 (d i - d i % 2 ^ k)).sshiftRight k &&& 1#32) = BitVec.ofNat 32 (d i / 2 ^ k % 2) := by
    intro i hi ki
    rw [bit_eq _ _ (by have := hd i hi ki; omega)]
    have e1 := Nat.div_add_mod (d i) (2 ^ k)
    rw [show d i - d i % 2 ^ k = 2 ^ k * (d i / 2 ^ k) by omega, Nat.mul_div_cancel_left _ hm]
  have low : ∀ i, d i % 2 ^ (k + 1) = d i % 2 ^ k + 2 ^ k * (d i / 2 ^ k % 2) := fun i => by rw [pow_succ]; exact mod_two_mul _ _
  have two : ∀ x : ℕ, x % 2 = 0 ∨ x % 2 = 1 := fun x => by omega
  have hpow : 2 ^ k ≤ 256 := Nat.pow_le_pow_right (n := 2) (by decide) (by omega : k ≤ 8)
  have uniq : ∀ i j p, i < 512 → j < 512 → keep i → keep j → p + d i % 2 ^ k = i → p + d j % 2 ^ k = j → i = j := by
    intro i j p hi hj ki kj ei ej
    rcases Nat.lt_trichotomy i j with l | l | l
    · obtain ⟨a, b⟩ := hdd i j l hj ki kj; exact (inv_unique hm l a b ei ej).elim
    · exact l
    · obtain ⟨a, b⟩ := hdd j i l hi kj ki; exact (inv_unique hm l a b ej ei).elim
  intro p hp
  rw [hV p hp, hS p hp]
  by_cases ht : p + 2 ^ k < 512 ∧ 0 ≤ (V (p + 2 ^ k)).toInt ∧ ((S (p + 2 ^ k)).sshiftRight k &&& 1#32) = 1#32
  · rw [if_pos ht, if_pos ht]
    obtain ⟨t1, t2, t3⟩ := ht
    rcases h _ t1 with ⟨i, hi, ki, ei, vi, si⟩ | ⟨n, e⟩
    · left
      rw [si, bit i hi ki] at t3
      have t4 : d i / 2 ^ k % 2 = 1 := by
        rcases two (d i / 2 ^ k) with z | z
        · rw [z] at t3; exact absurd t3 (by decide)
        · exact z
      have l := low i
      rw [t4, Nat.mul_one] at l
      refine ⟨i, hi, ki, by omega, vi, ?_⟩
      rw [si]
      have : d i % 2 ^ (k + 1) ≤ d i := Nat.mod_le _ _
      have di := hd i hi ki
      apply BitVec.eq_of_toNat_eq
      rw [BitVec.toNat_sub, BitVec.toNat_ofNat, BitVec.toNat_ofNat, BitVec.toNat_ofNat, l]
      omega
    · rw [e] at t2; exact absurd t2 neg
  · rw [if_neg ht, if_neg ht]
    by_cases hs : 0 ≤ (V p).toInt ∧ ((S p).sshiftRight k &&& 1#32) = 0#32
    · rw [if_pos hs, if_pos hs]
      obtain ⟨t2, t3⟩ := hs
      rcases h p hp with ⟨i, hi, ki, ei, vi, si⟩ | ⟨n, e⟩
      · left
        rw [si, bit i hi ki] at t3
        have t4 : d i / 2 ^ k % 2 = 0 := by
          rcases two (d i / 2 ^ k) with z | z
          · exact z
          · rw [z] at t3; exact absurd t3 (by decide)
        have l := low i
        rw [t4, Nat.mul_zero] at l
        exact ⟨i, hi, ki, by omega, vi, by rw [si, l, Nat.add_zero]⟩
      · rw [e] at t2; exact absurd t2 neg
    · rw [if_neg hs]
      right
      refine ⟨fun i hi ki ei => ?_, rfl⟩
      have l := low i
      rcases two (d i / 2 ^ k) with z | z
      · rw [z, Nat.mul_zero, Nat.add_zero] at l
        rcases h p hp with ⟨j, hj, kj, ej, vj, sj⟩ | ⟨n, e⟩
        · have : j = i := uniq j i p hj hi kj ki ej (by omega)
          subst this
          refine hs ⟨by rw [vj]; exact hv j hj kj, ?_⟩
          rw [sj, bit j hj kj, z]
        · exact n i hi ki (by omega)
      · rw [z, Nat.mul_one] at l
        have hlt : p + 2 ^ k < 512 := by omega
        rcases h _ hlt with ⟨j, hj, kj, ej, vj, sj⟩ | ⟨n, e⟩
        · have : j = i := uniq j i (p + 2 ^ k) hj hi kj ki ej (by omega)
          subst this
          refine ht ⟨hlt, by rw [vj]; exact hv j hj kj, ?_⟩
          rw [sj, bit j hj kj, z]
        · exact n i hi ki (by omega)

section Counting
variable {keep : ℕ → Prop} [DecidablePred keep]

/-- How far a kept entry moves. -/
def dist (keep : ℕ → Prop) [DecidablePred keep] (i : ℕ) : ℕ := i - Nat.count keep i

theorem dist_le (i : ℕ) : dist keep i ≤ i := Nat.sub_le _ _

theorem count_step (i j : ℕ) (h : i < j) (ki : keep i) : Nat.count keep i + 1 ≤ Nat.count keep j ∧ Nat.count keep j + i ≤ Nat.count keep i + j := by
  constructor
  · have : Nat.count keep (i + 1) ≤ Nat.count keep j := Nat.count_monotone keep h
    rwa [Nat.count_succ, if_pos ki] at this
  · obtain ⟨e, rfl⟩ := Nat.exists_eq_add_of_lt h
    have a := Nat.count_add keep i (e + 1)
    have b : Nat.count (fun k => keep (i + k)) (e + 1) ≤ e + 1 := Nat.count_le _
    rw [← Nat.add_assoc] at a
    omega

theorem dist_mono (i j : ℕ) (h : i < j) (ki : keep i) : dist keep i ≤ dist keep j ∧ dist keep j + i < dist keep i + j := by
  obtain ⟨a, b⟩ := count_step i j h ki
  have c : Nat.count keep i ≤ i := Nat.count_le _
  have e : Nat.count keep j ≤ j := Nat.count_le _
  unfold dist
  omega

/-- After all nine steps the column is compacted. -/
theorem compact_of_inv {v V S : ℕ → BitVec 32} (h : Inv keep v (dist keep) (2 ^ 9) V S) : Compact keep v V := by
  have q : ∀ i < 512, dist keep i % 2 ^ 9 = dist keep i := fun i hi => Nat.mod_eq_of_lt (by have := dist_le (keep := keep) i; omega)
  have r : ∀ i p, p + dist keep i = i ↔ Nat.count keep i = p := fun i p => by
    have c : Nat.count keep i ≤ i := Nat.count_le _
    unfold dist; omega
  intro p hp
  rcases h p hp with ⟨i, hi, ki, ei, vi, _⟩ | ⟨n, e⟩
  · rw [q i hi] at ei
    exact .inl ⟨i, hi, ki, (r i p).1 ei, vi⟩
  · refine .inr ⟨fun i hi ki ci => n i hi ki ?_, e⟩
    rw [q i hi]; exact (r i p).2 ci

/-- The column before the first step. -/
theorem inv_zero {v V S : ℕ → BitVec 32} (hV : ∀ p < 512, V p = if keep p then v p else 4294967295#32)
    (hS : ∀ p < 512, keep p → S p = BitVec.ofNat 32 (dist keep p)) : Inv keep v (dist keep) (2 ^ 0) V S := by
  intro p hp
  by_cases kp : keep p
  · exact .inl ⟨p, hp, kp, by rw [pow_zero, Nat.mod_one]; rfl, by rw [hV p hp, if_pos kp], by rw [hS p hp kp, pow_zero, Nat.mod_one]; rfl⟩
  · refine .inr ⟨fun i hi ki e => ?_, by rw [hV p hp, if_neg kp]⟩
    rw [pow_zero, Nat.mod_one, Nat.add_zero] at e
    exact kp (e ▸ ki)

/-- The count of the kept among the last `m` steps up to `t`. -/
def win (keep : ℕ → Prop) [DecidablePred keep] (m t : ℕ) : ℕ := Nat.count keep (t + 1) - Nat.count keep (t + 1 - m)

/-- A doubling of that window. -/
theorem win_step (m t : ℕ) : win keep (m * 2) t = win keep m t + (if m ≤ t then win keep m (t - m) else 0) := by
  have mono := Nat.count_monotone keep
  unfold win
  split
  · next h =>
    rw [show t - m + 1 = t + 1 - m by omega, show t + 1 - m - m = t + 1 - m * 2 by omega]
    have a : Nat.count keep (t + 1 - m * 2) ≤ Nat.count keep (t + 1 - m) := mono (by omega)
    have b : Nat.count keep (t + 1 - m) ≤ Nat.count keep (t + 1) := mono (by omega)
    omega
  · next h =>
    rw [show t + 1 - m * 2 = 0 by omega, show t + 1 - m = 0 by omega]; rfl

theorem win_one (t : ℕ) : win keep 1 t = if keep t then 1 else 0 := by
  unfold win
  rw [Nat.add_sub_cancel, Nat.count_succ]; omega

theorem win_all (t : ℕ) (ht : t < 512) : win keep 512 t = Nat.count keep (t + 1) := by
  unfold win
  rw [show t + 1 - 512 = 0 by omega]; rfl

theorem win_lt (m t : ℕ) (ht : t < 512) : win keep m t ≤ 512 := by
  unfold win
  have : Nat.count keep (t + 1) ≤ t + 1 := Nat.count_le _
  omega

/-- A sort of the kept places before all others compacts. -/
theorem compact_of_sort {v o : ℕ → BitVec 32} (σ : Fin 512 → Fin 512) (inj : Function.Injective σ) (sur : Function.Surjective σ)
    (hs : ∀ p q : Fin 512, p < q → (if keep (σ p) then (σ p).val else 512) ≤ (if keep (σ q) then (σ q).val else 512))
    (ho : ∀ p : Fin 512, o p = if keep (σ p) then v (σ p) else 4294967295#32) : Compact keep v o := by
  have key : ∀ p : Fin 512, keep (σ p) → Nat.count keep (σ p) = p := by
    intro p kp
    rw [Nat.count_eq_card_filter_range]
    have : (Finset.range (σ p).val).filter keep = (Finset.univ.filter (· < p)).image fun q => (σ q).val := by
      ext j
      simp only [Finset.mem_filter, Finset.mem_range, Finset.mem_image, Finset.mem_univ, true_and]
      constructor
      · rintro ⟨l, kj⟩
        obtain ⟨q, e⟩ := sur ⟨j, by omega⟩
        have ej : (σ q).val = j := by rw [e]
        refine ⟨q, ?_, ej⟩
        by_contra n
        rcases lt_or_eq_of_le (not_lt.1 n) with g | g
        · have := hs p q g
          rw [if_pos kp, ej, if_pos kj] at this
          omega
        · subst g; omega
      · rintro ⟨q, l, rfl⟩
        have h1 := hs q p l
        rw [if_pos kp] at h1
        have ne : (σ q).val ≠ (σ p).val := fun e => (ne_of_lt l) (inj (Fin.ext e))
        by_cases kq : keep (σ q)
        · rw [if_pos kq] at h1; exact ⟨by omega, kq⟩
        · rw [if_neg kq] at h1; omega
    rw [this, Finset.card_image_of_injective _ (fun a b e => inj (Fin.ext e))]
    rw [show (Finset.univ.filter (· < p) : Finset (Fin 512)) = Finset.Iio p by ext; simp]
    exact Fin.card_Iio p
  intro p hp
  by_cases kp : keep (σ ⟨p, hp⟩)
  · exact .inl ⟨_, (σ ⟨p, hp⟩).isLt, kp, key _ kp, by rw [ho ⟨p, hp⟩, if_pos kp]⟩
  · refine .inr ⟨fun i hi ki ci => ?_, by rw [ho ⟨p, hp⟩, if_neg kp]⟩
    obtain ⟨q, e⟩ := sur ⟨i, hi⟩
    have ei : (σ q).val = i := by rw [e]
    have := key q (by rw [ei]; exact ki)
    rw [ei, ci] at this
    apply kp
    have : q = ⟨p, hp⟩ := Fin.ext this.symm
    rw [← this, ei]; exact ki

end Counting

end Cert.Value
-- ==== Proof.Value.KernelCols.lean ====
/- The kernel's decoding, column by column: what it writes is the compacted column. -/
module

public import proofs.«01_k».proof.Proof.Value.Stages
public import proofs.«01_k».proof.Proof.Value.Compact
public import Idealize.ShloMosaic.Lib.KernelVsHost
public import Idealize.ShloMosaic.Lib.ValueIdxCore
public import Idealize.ShloMosaic.Lib.Pipeline.Value

@[expose] public section

noncomputable section

namespace Cert.Value

open Idealize.ShloMosaic Idealize.ShloMosaic.ValueIdx
open Cert.KernelIdeal Cert.KernelIdeal.Gen Cert.KernelIdeal.Hand

/-- A column of words as a sequence. -/
def col (x : W) (b : Fin 128) (t : ℕ) : BitVec 32 := if h : t < 512 then x (ValueIdx.ix2 (⟨t, h⟩ : Fin 512) b) else 0#32

theorem col_lt (x : W) (b : Fin 128) (t : ℕ) (h : t < 512) : col x b t = x (ValueIdx.ix2 (⟨t, h⟩ : Fin 512) b) := dif_pos h

/-- The step at place `t` of a sequence of classes is kept. -/
def keepAt (x : ℕ → BitVec 32) (t : ℕ) : Prop := x t ≠ (if t = 0 then 4294967295#32 else x (t - 1)) ∧ x t ≠ 999#32

instance (x : ℕ → BitVec 32) : DecidablePred (keepAt x) := fun t => by unfold keepAt; infer_instance

theorem rot_apply (n : BitVec 32) (hn : n.toNat < 512) (x : W) (t : Fin 512) (b : Fin 128) :
    rot n x (ValueIdx.ix2 t b) = x (ValueIdx.ix2 (⟨(t.val + 512 - n.toNat) % 512, Nat.mod_lt _ (by decide)⟩ : Fin 512) b) :=
  dynamicRotate_apply 0 n x rotates_S512x128_d0 _ _ fun a => by
    match a with
    | ⟨0, _⟩ => exact (by rw [Nat.mod_eq_of_lt hn] : _ = (t.val + 512 - n.toNat % 512) % 512)
    | ⟨1, _⟩ => rfl

theorem it_apply (t : Fin 512) (b : Fin 128) : it (ValueIdx.ix2 t b) = BitVec.ofNat 32 t := by
  unfold it
  exact iota_single_apply _ _ _ _ _ _

theorem slt_ofNat (t n : ℕ) (ht : t < 512) (hn : n ≤ 512) : (BitVec.ofNat 32 t).slt (BitVec.ofNat 32 n) = decide (t < n) := by
  rw [BitVec.slt_eq_decide, BitVec.toInt_eq_toNat_of_lt, BitVec.toInt_eq_toNat_of_lt, BitVec.toNat_ofNat, BitVec.toNat_ofNat,
    Nat.mod_eq_of_lt (by omega), Nat.mod_eq_of_lt (by omega)]
  · simp
  · rw [BitVec.toNat_ofNat]; omega
  · rw [BitVec.toNat_ofNat]; omega

theorem sle_ofNat (t n : ℕ) (ht : t < 512) (hn : n ≤ 512) : (BitVec.ofNat 32 n).sle (BitVec.ofNat 32 t) = decide (n ≤ t) := by
  rw [BitVec.sle_eq_decide, BitVec.toInt_eq_toNat_of_lt, BitVec.toInt_eq_toNat_of_lt, BitVec.toNat_ofNat, BitVec.toNat_ofNat,
    Nat.mod_eq_of_lt (by omega), Nat.mod_eq_of_lt (by omega)]
  · simp
  · rw [BitVec.toNat_ofNat]; omega
  · rw [BitVec.toNat_ofNat]; omega

theorem sge_zero (x : BitVec 32) : (0#32).sle x = decide (0 ≤ x.toInt) := by rw [BitVec.sle_eq_decide]; rfl

theorem ofBool_eq_one (c : Bool) : (BitVec.ofBool c = 1#1) ↔ c = true := by cases c <;> decide
theorem and_ofBool (a b : Bool) : IntOp.andi (BitVec.ofBool a) (BitVec.ofBool b) = BitVec.ofBool (a && b) := by cases a <;> cases b <;> rfl
theorem shr_apply (x : BitVec 32) (k : ℕ) (hk : k < 9) : IntOp.shrsi .vector x (BitVec.ofNat 32 k) = x.sshiftRight k := by
  unfold IntOp.shrsi
  have e : (BitVec.ofNat 32 k).toNat = k := by rw [BitVec.toNat_ofNat]; omega
  rw [if_pos (by omega)]
  exact congrArg x.sshiftRight e

/-- Which place takes, as a proposition. -/
theorem take_iff (k : ℕ) (hk : k < 9) (v s : W) (b : Fin 128) (p : ℕ) (hp : p < 512) :
    take (BitVec.ofNat 32 (512 - 2 ^ k)) (BitVec.ofNat 32 k) v s (ValueIdx.ix2 (⟨p, hp⟩ : Fin 512) b) = 1#1
      ↔ p + 2 ^ k < 512 ∧ 0 ≤ (col v b (p + 2 ^ k)).toInt ∧ ((col s b (p + 2 ^ k)).sshiftRight k &&& 1#32) = 1#32 := by
  have hpow : 2 ^ k ≤ 256 := Nat.pow_le_pow_right (n := 2) (by decide) (by omega : k ≤ 8)
  have hm : 0 < 2 ^ k := Nat.pos_of_ne_zero (by positivity)
  have er : (BitVec.ofNat 32 (512 - 2 ^ k)).toNat = 512 - 2 ^ k := by rw [BitVec.toNat_ofNat]; omega
  change IntOp.andi (IntOp.andi (BitVec.ofBool ((it (ValueIdx.ix2 (⟨p, hp⟩ : Fin 512) b)).slt (BitVec.ofNat 32 (512 - 2 ^ k))))
      (BitVec.ofBool ((0#32).sle (rot (BitVec.ofNat 32 (512 - 2 ^ k)) v (ValueIdx.ix2 (⟨p, hp⟩ : Fin 512) b)))))
      (BitVec.ofBool (IntOp.andi (IntOp.shrsi .vector (rot (BitVec.ofNat 32 (512 - 2 ^ k)) s (ValueIdx.ix2 (⟨p, hp⟩ : Fin 512) b)) (BitVec.ofNat 32 k)) 1#32 == 1#32)) = 1#1 ↔ _
  rw [and_ofBool, and_ofBool, ofBool_eq_one, it_apply, slt_ofNat p _ hp (by omega), sge_zero, shr_apply _ k hk, rot_apply _ (by omega), rot_apply _ (by omega)]
  simp only [Bool.and_eq_true, decide_eq_true_eq, beq_iff_eq]
  by_cases h : p + 2 ^ k < 512
  · have e : (⟨((⟨p, hp⟩ : Fin 512).val + 512 - (BitVec.ofNat 32 (512 - 2 ^ k)).toNat) % 512, Nat.mod_lt _ (by decide)⟩ : Fin 512) = ⟨p + 2 ^ k, h⟩ :=
      Fin.ext (by rw [er]; show (p + 512 - (512 - 2 ^ k)) % 512 = p + 2 ^ k; omega)
    rw [e, col_lt v b _ h, col_lt s b _ h, and_assoc]
    exact and_congr_left fun _ => ⟨fun _ => h, fun _ => by omega⟩
  · constructor
    · rintro ⟨⟨a, _⟩, _⟩; omega
    · rintro ⟨a, _⟩; exact absurd a h

theorem rot_col (k : ℕ) (hk : k < 9) (v : W) (b : Fin 128) (p : ℕ) (hp : p < 512) (h : p + 2 ^ k < 512) :
    rot (BitVec.ofNat 32 (512 - 2 ^ k)) v (ValueIdx.ix2 (⟨p, hp⟩ : Fin 512) b) = col v b (p + 2 ^ k) := by
  have hpow : 2 ^ k ≤ 256 := Nat.pow_le_pow_right (n := 2) (by decide) (by omega : k ≤ 8)
  have hm : 0 < 2 ^ k := Nat.pos_of_ne_zero (by positivity)
  have er : (BitVec.ofNat 32 (512 - 2 ^ k)).toNat = 512 - 2 ^ k := by rw [BitVec.toNat_ofNat]; omega
  have e : (⟨((⟨p, hp⟩ : Fin 512).val + 512 - (BitVec.ofNat 32 (512 - 2 ^ k)).toNat) % 512, Nat.mod_lt _ (by decide)⟩ : Fin 512) = ⟨p + 2 ^ k, h⟩ :=
    Fin.ext (by rw [er]; show (p + 512 - (512 - 2 ^ k)) % 512 = p + 2 ^ k; omega)
  rw [rot_apply _ (by omega), e, col_lt v b _ h]

/-- Which place keeps its word, as a proposition. -/
theorem stay_iff (k : ℕ) (hk : k < 9) (v s : W) (b : Fin 128) (p : ℕ) (hp : p < 512) :
    stay (BitVec.ofNat 32 k) v s (ValueIdx.ix2 (⟨p, hp⟩ : Fin 512) b) = 1#1
      ↔ 0 ≤ (col v b p).toInt ∧ ((col s b p).sshiftRight k &&& 1#32) = 0#32 := by
  change IntOp.andi (BitVec.ofBool ((0#32).sle (v (ValueIdx.ix2 (⟨p, hp⟩ : Fin 512) b))))
      (BitVec.ofBool (IntOp.andi (IntOp.shrsi .vector (s (ValueIdx.ix2 (⟨p, hp⟩ : Fin 512) b)) (BitVec.ofNat 32 k)) 1#32 == 0#32)) = 1#1 ↔ _
  rw [and_ofBool, ofBool_eq_one, sge_zero, shr_apply _ k hk, col_lt v b p hp, col_lt s b p hp]
  simp only [Bool.and_eq_true, decide_eq_true_eq, beq_iff_eq]
  exact Iff.rfl

/-- A stage's words, column by column. -/
theorem col_stV (k : ℕ) (hk : k < 9) (v s : W) (b : Fin 128) (p : ℕ) (hp : p < 512) :
    col (stV (BitVec.ofNat 32 (512 - 2 ^ k)) (BitVec.ofNat 32 k) v s) b p
      = if p + 2 ^ k < 512 ∧ 0 ≤ (col v b (p + 2 ^ k)).toInt ∧ ((col s b (p + 2 ^ k)).sshiftRight k &&& 1#32) = 1#32 then col v b (p + 2 ^ k)
        else if 0 ≤ (col v b p).toInt ∧ ((col s b p).sshiftRight k &&& 1#32) = 0#32 then col v b p else 4294967295#32 := by
  rw [col_lt _ b p hp]
  unfold stV
  rw [select_apply, select_apply]
  unfold Scalar.select
  refine if_ctx_congr (take_iff k hk v s b p hp) (fun h => rot_col k hk v b p hp h.1) fun _ =>
    if_ctx_congr (stay_iff k hk v s b p hp) (fun _ => (col_lt v b p hp).symm) fun _ => rfl

/-- A stage's distances, column by column. -/
theorem col_stS (k : ℕ) (hk : k < 9) (v s : W) (b : Fin 128) (p : ℕ) (hp : p < 512) :
    col (stS (BitVec.ofNat 32 (512 - 2 ^ k)) (BitVec.ofNat 32 k) (BitVec.ofNat 32 (2 ^ k)) v s) b p
      = if p + 2 ^ k < 512 ∧ 0 ≤ (col v b (p + 2 ^ k)).toInt ∧ ((col s b (p + 2 ^ k)).sshiftRight k &&& 1#32) = 1#32 then col s b (p + 2 ^ k) - BitVec.ofNat 32 (2 ^ k)
        else if 0 ≤ (col v b p).toInt ∧ ((col s b p).sshiftRight k &&& 1#32) = 0#32 then col s b p else 0#32 := by
  rw [col_lt _ b p hp]
  unfold stS
  rw [select_apply, select_apply]
  unfold Scalar.select
  refine if_ctx_congr (take_iff k hk v s b p hp) (fun h => ?_) fun _ =>
    if_ctx_congr (stay_iff k hk v s b p hp) (fun _ => (col_lt s b p hp).symm) fun _ => rfl
  exact congrArg (· - BitVec.ofNat 32 (2 ^ k)) (rot_col k hk s b p hp h.1)

/-- A step of the running count, column by column. -/
theorem col_cs (k : ℕ) (hk : k < 9) (c : W) (b : Fin 128) (t : ℕ) (ht : t < 512) :
    col (cs (BitVec.ofNat 32 (2 ^ k)) c) b t = col c b t + (if 2 ^ k ≤ t then col c b (t - 2 ^ k) else 0#32) := by
  have hpow : 2 ^ k ≤ 256 := Nat.pow_le_pow_right (n := 2) (by decide) (by omega : k ≤ 8)
  have er : (BitVec.ofNat 32 (2 ^ k)).toNat = 2 ^ k := by rw [BitVec.toNat_ofNat]; exact Nat.mod_eq_of_lt (lt_of_le_of_lt hpow (by decide))
  rw [col_lt _ b t ht]
  change c (ValueIdx.ix2 (⟨t, ht⟩ : Fin 512) b) + Scalar.select (BitVec.ofBool ((BitVec.ofNat 32 (2 ^ k)).sle (it (ValueIdx.ix2 (⟨t, ht⟩ : Fin 512) b)))) (rot (BitVec.ofNat 32 (2 ^ k)) c (ValueIdx.ix2 (⟨t, ht⟩ : Fin 512) b)) 0#32 = _
  rw [it_apply, sle_ofNat t _ ht (by omega), col_lt c b t ht]
  unfold Scalar.select
  congr 1
  refine if_ctx_congr (by rw [show (1 : BitVec 1) = 1#1 from rfl, ofBool_eq_one, decide_eq_true_eq]) (fun h => ?_) fun _ => rfl
  rw [rot_apply _ (by omega), col_lt c b _ (by omega)]
  congr 2
  exact Fin.ext (by rw [er]; show (t + 512 - 2 ^ k) % 512 = t - 2 ^ k; omega)

/-- A step of the running count counts twice as far back. -/
theorem cs_win {keep : ℕ → Prop} [DecidablePred keep] (k : ℕ) (hk : k < 9) (c : W) (b : Fin 128)
    (h : ∀ t < 512, col c b t = BitVec.ofNat 32 (win keep (2 ^ k) t)) :
    ∀ t < 512, col (cs (BitVec.ofNat 32 (2 ^ k)) c) b t = BitVec.ofNat 32 (win keep (2 ^ (k + 1)) t) := by
  intro t ht
  rw [col_cs k hk c b t ht, pow_succ, win_step, h t ht]
  split
  · rw [h _ (lt_of_le_of_lt (Nat.sub_le _ _) ht), BitVec.ofNat_add]
  · rw [Nat.add_zero]; exact BitVec.add_zero _

/-- The kept mask, column by column. -/
theorem keepK_iff (x : W) (b : Fin 128) (t : ℕ) (ht : t < 512) : keepK x (ValueIdx.ix2 (⟨t, ht⟩ : Fin 512) b) = 1#1 ↔ keepAt (col x b) t := by
  change IntOp.andi (BitVec.ofBool (x (ValueIdx.ix2 (⟨t, ht⟩ : Fin 512) b) != Scalar.select (BitVec.ofBool (it (ValueIdx.ix2 (⟨t, ht⟩ : Fin 512) b) == 0#32)) 4294967295#32 (rot 1#32 x (ValueIdx.ix2 (⟨t, ht⟩ : Fin 512) b))))
    (BitVec.ofBool (x (ValueIdx.ix2 (⟨t, ht⟩ : Fin 512) b) != 999#32)) = 1#1 ↔ _
  rw [and_ofBool, ofBool_eq_one, it_apply, rot_apply _ (by decide)]
  simp only [Bool.and_eq_true, bne_iff_ne]
  unfold keepAt
  rw [col_lt x b t ht]
  refine and_congr_left fun _ => not_congr (Eq.congr_right ?_)
  unfold Scalar.select
  refine if_ctx_congr ?_ (fun _ => rfl) fun h => ?_
  · rw [show (1 : BitVec 1) = 1#1 from rfl, ofBool_eq_one, beq_iff_eq]
    constructor
    · intro e
      have := congrArg BitVec.toNat e
      rw [BitVec.toNat_ofNat] at this
      have z : (0#32).toNat = 0 := rfl
      rw [z] at this
      omega
    · rintro rfl; rfl
  · rw [col_lt x b _ (by omega)]
    congr 2
    exact Fin.ext (by show (t + 512 - 1) % 512 = t - 1; omega)

/-- The running count, column by column. -/
theorem cnt_col (x : W) (b : Fin 128) (t : ℕ) (ht : t < 512) :
    col (cnt (keepK x)) b t = BitVec.ofNat 32 (Nat.count (keepAt (col x b)) (t + 1)) := by
  have h0 : ∀ t < 512, col (extui 32 (keepK x) natLt_1_32) b t = BitVec.ofNat 32 (win (keepAt (col x b)) (2 ^ 0) t) := by
    intro t ht
    rw [col_lt _ b t ht, pow_zero, win_one, extui_apply]
    by_cases h : keepAt (col x b) t
    · rw [if_pos h, (keepK_iff x b t ht).2 h]; rfl
    · rw [if_neg h, eq_zero_of_ne_one (fun e => h ((keepK_iff x b t ht).1 e))]; rfl
  have h1 := cs_win 0 (by decide) _ b h0
  have h2 := cs_win 1 (by decide) _ b h1
  have h3 := cs_win 2 (by decide) _ b h2
  have h4 := cs_win 3 (by decide) _ b h3
  have h5 := cs_win 4 (by decide) _ b h4
  have h6 := cs_win 5 (by decide) _ b h5
  have h7 := cs_win 6 (by decide) _ b h6
  have h8 := cs_win 7 (by decide) _ b h7
  have h9 := cs_win 8 (by decide) _ b h8
  rw [← win_all t ht]
  exact h9 t ht

/-- A stage moves the kept entries on by one bit of their distance. -/
theorem stage_inv {keep : ℕ → Prop} [DecidablePred keep] {w : ℕ → BitVec 32} (hw : ∀ i < 512, keep i → 0 ≤ (w i).toInt) (k : ℕ) (hk : k < 9) (v s : W) (b : Fin 128)
    (h : Inv keep w (dist keep) (2 ^ k) (col v b) (col s b)) :
    Inv keep w (dist keep) (2 ^ (k + 1)) (col (stV (BitVec.ofNat 32 (512 - 2 ^ k)) (BitVec.ofNat 32 k) v s) b)
      (col (stS (BitVec.ofNat 32 (512 - 2 ^ k)) (BitVec.ofNat 32 k) (BitVec.ofNat 32 (2 ^ k)) v s) b) :=
  inv_step (fun i _ _ => dist_le i) (fun i j l _ ki _ => dist_mono i j l ki) hw k hk _ _ _ _ h (col_stV k hk v s b) (col_stS k hk v s b)

/-- A column written by rows, as a sequence. -/
def row (y : IVec S128x512 32) (b : Fin 128) (p : ℕ) : BitVec 32 := if h : p < 512 then y (ValueIdx.ix2 b (⟨p, h⟩ : Fin 512)) else 0#32

section Finish
variable {keep : ℕ → Prop} [DecidablePred keep] {w : ℕ → BitVec 32} (hw : ∀ i < 512, keep i → 0 ≤ (w i).toInt) (b : Fin 128) (v s : W)
include hw

theorem fin8 (h : Inv keep w (dist keep) (2 ^ 8) (col v b) (col s b)) : Compact keep w (row (d8 v s) b) := by
  have c := compact_of_inv (stage_inv hw 8 (by decide) _ _ b h)
  have e : row (d8 v s) b = col (stV 256#32 8#32 v s) b := by
    funext p
    unfold row col
    refine dite_congr rfl (fun h => ?_) fun _ => rfl
    unfold d8
    exact congrArg (stV 256#32 8#32 v s) (funext fun a => by match a with | ⟨0, _⟩ => rfl | ⟨1, _⟩ => rfl)
  rw [e]; exact c
theorem fin7 (h : Inv keep w (dist keep) (2 ^ 7) (col v b) (col s b)) : Compact keep w (row (d7 v s) b) := by
  rw [d7_eq]; exact fin8 hw b _ _ (stage_inv hw 7 (by decide) _ _ b h)
theorem fin6 (h : Inv keep w (dist keep) (2 ^ 6) (col v b) (col s b)) : Compact keep w (row (d6 v s) b) := by
  rw [d6_eq]; exact fin7 hw b _ _ (stage_inv hw 6 (by decide) _ _ b h)
theorem fin5 (h : Inv keep w (dist keep) (2 ^ 5) (col v b) (col s b)) : Compact keep w (row (d5 v s) b) := by
  rw [d5_eq]; exact fin6 hw b _ _ (stage_inv hw 5 (by decide) _ _ b h)
theorem fin4 (h : Inv keep w (dist keep) (2 ^ 4) (col v b) (col s b)) : Compact keep w (row (d4 v s) b) := by
  rw [d4_eq]; exact fin5 hw b _ _ (stage_inv hw 4 (by decide) _ _ b h)
theorem fin3 (h : Inv keep w (dist keep) (2 ^ 3) (col v b) (col s b)) : Compact keep w (row (d3 v s) b) := by
  rw [d3_eq]; exact fin4 hw b _ _ (stage_inv hw 3 (by decide) _ _ b h)
theorem fin2 (h : Inv keep w (dist keep) (2 ^ 2) (col v b) (col s b)) : Compact keep w (row (d2 v s) b) := by
  rw [d2_eq]; exact fin3 hw b _ _ (stage_inv hw 2 (by decide) _ _ b h)
theorem fin1 (h : Inv keep w (dist keep) (2 ^ 1) (col v b) (col s b)) : Compact keep w (row (d1 v s) b) := by
  rw [d1_eq]; exact fin2 hw b _ _ (stage_inv hw 1 (by decide) _ _ b h)

end Finish

/-- Of nonnegative classes the kernel's decoding writes, for each batch, the compacted column. -/
theorem dec_compact {F : FTy → Type} [FloatOps F] (x : W) (hx : ∀ i, 0 ≤ (x i).toInt) (b : Fin 128) :
    Compact (keepAt (col x b)) (col x b) (row (dec (F := F) x) b) := by
  have hw : ∀ i < 512, keepAt (col x b) i → 0 ≤ (col x b i).toInt := fun i hi _ => by rw [col_lt x b i hi]; exact hx _
  have h0 : Inv (keepAt (col x b)) (col x b) (dist (keepAt (col x b))) (2 ^ 0) (col (v0K x) b) (col (s0K x) b) := by
    refine inv_zero (fun p hp => ?_) fun p hp kp => ?_
    · rw [col_lt (v0K x) b p hp]
      unfold v0K
      rw [select_apply]
      unfold Scalar.select
      exact if_ctx_congr (keepK_iff x b p hp) (fun _ => (col_lt x b p hp).symm) fun _ => rfl
    · rw [col_lt (s0K x) b p hp]
      unfold s0K
      rw [select_apply]
      unfold Scalar.select
      refine (if_pos ((keepK_iff x b p hp).2 kp)).trans ?_
      change it (ValueIdx.ix2 (⟨p, hp⟩ : Fin 512) b) - (cnt (keepK x) (ValueIdx.ix2 (⟨p, hp⟩ : Fin 512) b) - 1#32) = _
      rw [it_apply, ← col_lt (cnt (keepK x)) b p hp, cnt_col x b p hp, Nat.count_succ, if_pos kp]
      have c : Nat.count (keepAt (col x b)) p ≤ p := Nat.count_le _
      unfold dist
      rw [BitVec.ofNat_add, BitVec.add_sub_cancel]
      apply BitVec.eq_of_toNat_eq
      rw [BitVec.toNat_sub, BitVec.toNat_ofNat, BitVec.toNat_ofNat, BitVec.toNat_ofNat]
      show (2 ^ 32 - Nat.count (keepAt (col x b)) p % 2 ^ 32 + p % 2 ^ 32) % 2 ^ 32 = _
      omega
  rw [dec_eq']
  exact fin1 hw b _ _ (stage_inv hw 0 (by decide) _ _ b h0)

end Cert.Value

end
-- ==== Proof.Value.RefCols.lean ====
/- The reference's decoding, row by row: what it returns is the compacted row. -/
module

public import proofs.«01_k».proof.Proof.Reference.Run
public import proofs.«01_k».proof.Proof.Value.Compact
public import Idealize.ShloMosaic.PureOps.Reduce
public import Idealize.ShloMosaic.Lib.SortFacts
public import Idealize.ShloMosaic.Lib.ValueIdxCore
public import Idealize.ShloMosaic.Lib.Pipeline.Value

@[expose] public section

noncomputable section

namespace Cert.Value.Ref

open Idealize.ShloMosaic Idealize.ShloMosaic.ValueIdx
open Cert.ReferenceIdeal Cert.ReferenceIdeal.Gen Cert.ReferenceIdeal.Hand

/-- Rows of words: one word per batch and step. -/
abbrev R : Type := IVec S128x512 32

/-- A row of words as a sequence. -/
def row (x : R) (b : Fin 128) (t : ℕ) : BitVec 32 := if h : t < 512 then x (ValueIdx.ix2 b (⟨t, h⟩ : Fin 512)) else 0#32

theorem row_lt (x : R) (b : Fin 128) (t : ℕ) (h : t < 512) : row x b t = x (ValueIdx.ix2 b (⟨t, h⟩ : Fin 512)) := dif_pos h

theorem bit_one (c : Bool) : (BitVec.ofBool c = 1#1) ↔ c = true := by cases c <;> decide
theorem and_bits (a b : Bool) : IntOp.andi (BitVec.ofBool a) (BitVec.ofBool b) = BitVec.ofBool (a && b) := by cases a <;> cases b <;> rfl

/-- The step at place `t` of a row is kept. -/
def keepOf (x : ℕ → BitVec 32) (t : ℕ) : Prop := x t ≠ (if t = 0 then 4294967295#32 else x (t - 1)) ∧ x t ≠ 999#32

instance (x : ℕ → BitVec 32) : DecidablePred (keepOf x) := fun t => by unfold keepOf; infer_instance

/-- The row before it: -1 and then the row, one step later. -/
theorem prev_apply (x : R) (b : Fin 128) (t : ℕ) (ht : t < 512) :
    concatenate S128x512 1 [⟨S128x1, broadcastInDim S128x1 ![] bcast_S_S128x1 (constantI S_ 32 4294967295#32)⟩,
      ⟨S128x511, extractStridedSlice S128x511 ![0, 0] x slices_S128x512_S128x511_0_0⟩] concatenates_S128x1_S128x511_S128x512_d1 (ValueIdx.ix2 b (⟨t, ht⟩ : Fin 512))
    = if t = 0 then 4294967295#32 else row x b (t - 1) := by
  by_cases h : t = 0
  · subst h
    refine (concatenate_pair_apply_left (t := S128x512) (s₁ := S128x1) (s₂ := S128x511) 1 _ _ concatenates_S128x1_S128x511_S128x512_d1 (ValueIdx.ix2 b (⟨0, ht⟩ : Fin 512)) rfl (ValueIdx.ix2 b (0 : Fin 1)) fun a => ?_).trans rfl
    match a with
    | ⟨0, _⟩ => rfl
    | ⟨1, _⟩ => rfl
  · rw [if_neg h, row_lt x b (t - 1) (by omega)]
    refine (concatenate_pair_apply_right (t := S128x512) (s₁ := S128x1) (s₂ := S128x511) 1 _ _ concatenates_S128x1_S128x511_S128x512_d1 (ValueIdx.ix2 b (⟨t, ht⟩ : Fin 512)) rfl rfl (ValueIdx.ix2 b (⟨t - 1, by omega⟩ : Fin 511)) (fun a ha => ?_) ?_).trans ?_
    · match a with
      | ⟨0, _⟩ => rfl
      | ⟨1, _⟩ => exact absurd rfl ha
    · show t - 1 + 1 = t
      omega
    · refine extractStridedSlice_apply _ _ _ _ _ fun a => ?_
      match a with
      | ⟨0, _⟩ => exact (Nat.zero_add _).symm
      | ⟨1, _⟩ => exact (Nat.zero_add _).symm

/-- The kept mask, row by row. -/
theorem keepR_iff (x : R) (b : Fin 128) (t : ℕ) (ht : t < 512) : keepR x (ValueIdx.ix2 b (⟨t, ht⟩ : Fin 512)) = 1#1 ↔ keepOf (row x b) t := by
  have e := prev_apply x b t ht
  unfold keepR
  change IntOp.andi (BitVec.ofBool (x (ValueIdx.ix2 b (⟨t, ht⟩ : Fin 512)) != concatenate S128x512 1 _ _ (ValueIdx.ix2 b (⟨t, ht⟩ : Fin 512))))
    (BitVec.ofBool (x (ValueIdx.ix2 b (⟨t, ht⟩ : Fin 512)) != 999#32)) = 1#1 ↔ _
  rw [e, and_bits, bit_one]
  simp only [Bool.and_eq_true, bne_iff_ne]
  unfold keepOf
  rw [row_lt x b t ht]

/-- The sort's keys. -/
def keyR (k : IVec S128x512 1) : R :=
  select k (broadcastInDim S128x512 ![0, 1] bcast_S1x512_S128x512_0_1 (broadcastInDim S1x512 ![1] bcast_S512_S1x512_1 (iotaInDim S512 32 0)))
    (broadcastInDim S128x512 ![] bcast_S_S128x512 (constantI S_ 32 512#32))

theorem keyR_apply (k : IVec S128x512 1) (b : Fin 128) (t : Fin 512) :
    keyR k (ValueIdx.ix2 b t) = if k (ValueIdx.ix2 b t) = 1#1 then BitVec.ofNat 32 t else 512#32 := by
  unfold keyR
  rw [select_apply]
  unfold Scalar.select
  refine if_ctx_congr Iff.rfl (fun _ => ?_) fun _ => rfl
  refine (broadcastInDim_apply _ _ _ _ (ValueIdx.ix2 (0 : Fin 1) t) fun a => ?_).trans
    ((broadcastInDim_apply _ _ _ _ (ValueIdx.ix1 t) fun a => ?_).trans rfl)
  · match a with
    | ⟨0, _⟩ => rfl
    | ⟨1, _⟩ => rfl
  · match a with
    | ⟨0, _⟩ => rfl

/-- Which of two places of a batch's row sorts first. -/
def bef (k : IVec S128x512 1) (b : Fin 128) (p q : Fin 512) : Bool := (keyR k (ValueIdx.ix2 b p)).slt (keyR k (ValueIdx.ix2 b q))
/-- The place the sort puts at `p`. -/
def src (k : IVec S128x512 1) (b : Fin 128) (p : Fin 512) : Fin 512 := sortedFrom (bef k b) p

theorem along_ix2 (b : Fin 128) (p q : Fin 512) : (ValueIdx.ix2 b p : S128x512.Idx).along 1 q = ValueIdx.ix2 b q := by
  funext a
  match a with
  | ⟨0, _⟩ => rfl
  | ⟨1, _⟩ => rfl

/-- A sort of the rows, read at a place. -/
theorem sortBy_row {ι α : Type} (cmp : ι → ι → BitVec 1) (rows : S128x512.Idx → ι) (x : S128x512.Idx → α) (b : Fin 128) (p : Fin 512) :
    Host.sortBy S128x512 1 cmp rows x (ValueIdx.ix2 b p)
      = x (ValueIdx.ix2 b (sortedFrom (fun k k' : Fin 512 => cmp (rows (ValueIdx.ix2 b k)) (rows (ValueIdx.ix2 b k')) == 1#1) p)) := by
  unfold Host.sortBy
  rw [dif_pos (by decide)]
  show x ((ValueIdx.ix2 b p : S128x512.Idx).along 1 (sortedFrom (fun k k' : Fin 512 =>
    cmp (rows ((ValueIdx.ix2 b p : S128x512.Idx).along 1 k)) (rows ((ValueIdx.ix2 b p : S128x512.Idx).along 1 k')) == 1#1) p)) = _
  simp only [along_ix2]
  exact congrArg x (along_ix2 b p _)

theorem ordR_apply (k : IVec S128x512 1) (b : Fin 128) (p : Fin 512) : ordR k (ValueIdx.ix2 b p) = BitVec.ofNat 32 (src k b p) := by
  have e := congrFun (congrArg Prod.snd (Host.sort2_eq_sortBy S128x512 1 comparator_i32_i32_d1 (keyR k) (iotaInDim S128x512 32 1))) (ValueIdx.ix2 b p)
  refine e.trans ?_
  show Host.sortBy S128x512 1 comparator_i32_i32_d1 (fun j => (keyR k j, iotaInDim S128x512 32 1 j)) (iotaInDim S128x512 32 1) (ValueIdx.ix2 b p) = _
  rw [sortBy_row]
  unfold src
  have f : (fun k' k'' : Fin 512 => comparator_i32_i32_d1 (keyR k (ValueIdx.ix2 b k'), iotaInDim S128x512 32 1 (ValueIdx.ix2 b k'))
      (keyR k (ValueIdx.ix2 b k''), iotaInDim S128x512 32 1 (ValueIdx.ix2 b k'')) == 1#1) = bef k b := by
    funext q r
    unfold bef comparator_i32_i32_d1
    change (BitVec.ofBool ((keyR k (ValueIdx.ix2 b q)).slt (keyR k (ValueIdx.ix2 b r))) == 1#1) = _
    cases (keyR k (ValueIdx.ix2 b q)).slt (keyR k (ValueIdx.ix2 b r)) <;> rfl
  rw [f]
  rfl

theorem toInt_small (n : ℕ) (hn : n ≤ 512) : (BitVec.ofNat 32 n).toInt = n := by
  rw [BitVec.toInt_eq_toNat_of_lt, BitVec.toNat_ofNat, Nat.mod_eq_of_lt (by omega)]
  rw [BitVec.toNat_ofNat]; omega

/-- The place numbers in the sort's order are in range, so nothing is wrapped. -/
theorem posR_apply (k : IVec S128x512 1) (b : Fin 128) (p : Fin 512) :
    posR (ordR k) (ValueIdx.ix3 b p (0 : Fin 1)) = BitVec.ofNat 32 (src k b p) := by
  unfold posR
  refine (shapeCast_apply _ _ _ (ValueIdx.ix2 b p) ?_).trans ?_
  · rw [Shape.rowMajor_val_two, Shape.rowMajor_val_three]
    show b.val * 512 + p.val = (b.val * 512 + p.val) * 1 + 0
    omega
  · rw [select_apply]
    unfold Scalar.select
    rw [ordR_apply]
    refine (if_neg ?_).trans rfl
    change ¬ BitVec.ofBool ((ordR k (ValueIdx.ix2 b p)).slt 0#32) = 1#1
    rw [ordR_apply, bit_one, BitVec.slt_eq_decide, toInt_small _ (by omega)]
    simp

/-- The gather reads its row at the place its index names. -/
theorem gather_row (v : R) (q : IVec S128x512x1 32) (b : Fin 128) (p s : Fin 512) (h : q (ValueIdx.ix3 b p (0 : Fin 1)) = BitVec.ofNat 32 s) :
    Host.gather gather_S128x512_S128x512x1_S128x512_n_1_0_0_1_2_11 v q (ValueIdx.ix2 b p) = v (ValueIdx.ix2 b s) := by
  let D := gather_S128x512_S128x512x1_S128x512_n_1_0_0_1_2_11
  let y : S128x512.Idx := ValueIdx.ix2 b p
  unfold Host.gather
  congr 1
  funext a
  refine Fin.ext ?_
  show D.start y q a + D.batchCoord y a + D.offCoord y a = _
  match a with
  | ⟨0, _⟩ =>
    have e1 : D.start y q (0 : Fin 2) = 0 := GatherDims.start_batching _ _ _ _ (List.mem_singleton.mpr rfl)
    have e2 : D.offCoord y (0 : Fin 2) = 0 := GatherDims.offCoord_eq_zero _ _ _ (fun h => ((GatherDims.mem_sKept _ _).mp h).2 (List.mem_singleton.mpr rfl))
    have e3 : D.batchCoord y (0 : Fin 2) = b.val := by
      unfold GatherDims.batchCoord
      rw [dif_pos (show (0 : Fin 2) ∈ D.operandBatchingDims from List.mem_singleton.mpr rfl)]
      rfl
    show D.start y q (0 : Fin 2) + D.batchCoord y (0 : Fin 2) + D.offCoord y (0 : Fin 2) = b.val
    rw [e1, e2, e3, Nat.zero_add, Nat.add_zero]
  | ⟨1, _⟩ =>
    have e1 : D.batchCoord y (1 : Fin 2) = 0 := GatherDims.batchCoord_eq_zero _ _ _ (fun h => by simp [D, gather_S128x512_S128x512x1_S128x512_n_1_0_0_1_2_11] at h)
    have e2 : D.offCoord y (1 : Fin 2) = 0 := GatherDims.offCoord_eq_zero _ _ _ (fun h => ((GatherDims.mem_sKept _ _).mp h).1 (List.mem_singleton.mpr rfl))
    have e3 : D.start y q (1 : Fin 2) = s.val := by
      unfold GatherDims.start
      rw [dif_pos (show (1 : Fin 2) ∈ D.startIndexMap from List.mem_singleton.mpr rfl)]
      have hs : D.siIdx y ⟨List.idxOf (1 : Fin 2) D.startIndexMap, List.idxOf_lt_length_iff.2 (List.mem_singleton.mpr rfl)⟩ = ValueIdx.ix3 b p (0 : Fin 1) := by
        funext c; refine Fin.ext ?_
        match c with
        | ⟨0, _⟩ => rfl
        | ⟨1, _⟩ => rfl
        | ⟨2, _⟩ => rfl
      rw [hs, h, toInt_small _ (by omega)]
      show min s.val (512 - 1) = s.val
      omega
    show D.start y q (1 : Fin 2) + D.batchCoord y (1 : Fin 2) + D.offCoord y (1 : Fin 2) = s.val
    rw [e1, e2, e3]
    rfl

theorem foldl_ones {ι : Type} (l : List ι) (f : ι → BitVec 1) (h : ∀ i ∈ l, f i = 1#1) : l.foldl (fun r i => IntOp.andi r (f i)) 1#1 = 1#1 := by
  induction l with
  | nil => rfl
  | cons a l ih =>
    rw [List.foldl_cons, h a List.mem_cons_self]
    exact ih fun i hi => h i (List.mem_cons_of_mem _ hi)

/-- Taking at places in range reads the row there. -/
theorem takeR_apply (v : R) (q : IVec S128x512x1 32) (s : Fin 128 → Fin 512 → Fin 512)
    (h : ∀ b p, q (ValueIdx.ix3 b p (0 : Fin 1)) = BitVec.ofNat 32 (s b p)) (b : Fin 128) (p : Fin 512) :
    takeR v q (ValueIdx.ix2 b p) = v (ValueIdx.ix2 b (s b p)) := by
  unfold takeR
  rw [select_apply, Host.reduce_eq_foldl]
  unfold Scalar.select
  refine (if_pos ?_).trans (gather_row v q b p (s b p) (h b p))
  refine foldl_ones _ _ fun i hi => ?_
  change IntOp.andi (BitVec.ofBool ((0#32).sle (q i))) (BitVec.ofBool ((q i).sle 511#32)) = 1#1
  have ei : i = ValueIdx.ix3 (i 0 : Fin 128) (i 1 : Fin 512) (0 : Fin 1) := by
    funext a
    match a with
    | ⟨0, _⟩ => rfl
    | ⟨1, _⟩ => rfl
    | ⟨2, _⟩ => exact Fin.ext (by have := (i ⟨2, by decide⟩).isLt; change _ < 1 at this; show _ = 0; omega)
  have hq : ∃ z : Fin 512, q i = BitVec.ofNat 32 z := ⟨s (i 0) (i 1), (congrArg q ei).trans (h (i 0) (i 1))⟩
  obtain ⟨z, hz⟩ := hq
  rw [hz, and_bits, bit_one, BitVec.sle_eq_decide, BitVec.sle_eq_decide, toInt_small _ (by omega)]
  have := z.isLt
  simp only [Bool.and_eq_true, decide_eq_true_eq]
  have ez := toInt_small z.val (by omega)
  exact ⟨by rw [ez]; exact Int.natCast_nonneg _, by rw [ez]; show (z.val : ℤ) ≤ 511; omega⟩

/-- The reference's decoding is the compacted row. -/
theorem decR_compact (x : R) (b : Fin 128) : Compact (keepOf (row x b)) (row x b) (row (decR x) b) := by
  have key : ∀ p : Fin 512, keyR (keepR x) (ValueIdx.ix2 b p) = BitVec.ofNat 32 (if keepOf (row x b) p then p.val else 512) := by
    intro p
    rw [keyR_apply]
    by_cases h : keepOf (row x b) p
    · rw [if_pos h, if_pos ((keepR_iff x b p p.isLt).2 h)]
    · rw [if_neg h, if_neg fun e => h ((keepR_iff x b p p.isLt).1 e)]
  have keylt : ∀ p q : Fin 512, bef (keepR x) b p q = decide ((if keepOf (row x b) p then p.val else 512) < (if keepOf (row x b) q then q.val else 512)) := by
    intro p q
    unfold bef
    rw [key, key, BitVec.slt_eq_decide, toInt_small _ (by split <;> omega), toInt_small _ (by split <;> omega)]
    exact decide_eq_decide.2 Nat.cast_lt
  refine compact_of_sort (src (keepR x) b) (sortedFrom_injective _) (sortedFrom_surjective _) (fun p q l => ?_) fun p => ?_
  · have n := sortedFrom_noInversion (bef (keepR x) b) (bef (keepR x) b)
      (fun a c => by rw [keylt, keylt, decide_eq_true_eq, decide_eq_false_iff_not]; omega)
      (fun a c h => h)
      (fun a c d => by rw [keylt, keylt, keylt, decide_eq_false_iff_not, decide_eq_false_iff_not, decide_eq_false_iff_not]; omega) p q l
    rw [keylt, decide_eq_false_iff_not] at n
    exact not_lt.1 n
  · rw [row_lt (decR x) b p p.isLt]
    unfold decR
    rw [takeR_apply _ _ (src (keepR x)) (posR_apply (keepR x)) b p]
    unfold valR
    rw [select_apply]
    unfold Scalar.select
    generalize src (keepR x) b p = i
    exact if_ctx_congr (keepR_iff x b i i.isLt) (fun _ => (row_lt x b i i.isLt).symm) fun _ => rfl

end Cert.Value.Ref

end
-- ==== Proof.Value.Decode.lean ====
/- The decoded classes: the kernel's array and the reference's are one. -/
module

public import proofs.«01_k».proof.Proof.Value.KernelArg
public import proofs.«01_k».proof.Proof.Value.RefCls
public import proofs.«01_k».proof.Proof.Value.KernelCols
public import proofs.«01_k».proof.Proof.Value.RefCols

@[expose] public section

noncomputable section

namespace Cert.Value

open Idealize.ShloMosaic Idealize.ShloMosaic.ValueIdx Cert.Value.Rows
open Cert.Value.Ref (eps)

/-- Block `b` of the argument, read at a step and a class. -/
theorem blk_at {F : FTy → Type} [FloatOps F] (c : Dev Cert.KernelIdeal.nD) (X : FVec F Cert.KernelIdeal.S128x512x1000 .f32)
    (b : Fin 128) (t : Fin 512) (k : Fin 1000) :
    Cert.KernelIdeal.Hand.blk (F := F) c X b (ValueIdx.ix3 (0 : Fin 1) t k) = X (ValueIdx.ix3 b t k) := by
  unfold Cert.KernelIdeal.Hand.blk
  refine congrArg X (funext fun a => Fin.ext ?_)
  match a with
  | ⟨0, _⟩ => show b.val + 1 * 0 = b.val; omega
  | ⟨1, _⟩ => show 0 + 1 * t.val = t.val; omega
  | ⟨2, _⟩ => show 0 + 1 * k.val = k.val; omega

/-- The lanes of a block are the classes of its batch. -/
theorem lane_blk (c : Dev Cert.KernelIdeal.nD) (X : FVec Ideal Cert.KernelIdeal.S128x512x1000 .f32) (b : Fin 128) (t : Fin 512) :
    Ker.lane (Cert.KernelIdeal.Hand.blk (F := Ideal) c X b) t = fun k => X (ValueIdx.ix3 b t k) :=
  funext fun k => blk_at c X b t k

/-- The winners' array at a step and a batch. -/
theorem bcF_at {F : FTy → Type} [FloatOps F] (c : Dev Cert.KernelIdeal.nD) (X : FVec F Cert.KernelIdeal.S128x512x1000 .f32) (b : Fin 128) (t : Fin 512) :
    Cert.KernelIdeal.Hand.bcF (F := F) c X (ValueIdx.ix2 t b) = Cert.KernelIdeal.Hand.win (Cert.KernelIdeal.Hand.blk (F := F) c X b) (Ker.at1 t) := rfl

/-- The winners are the classes. -/
theorem bcF_cls (c : Dev Cert.KernelIdeal.nD) (X : FVec Ideal Cert.KernelIdeal.S128x512x1000 .f32) (b : Fin 128) (t : Fin 512) :
    Cert.KernelIdeal.Hand.bcF (F := Ideal) c X (ValueIdx.ix2 t b) = Cert.ReferenceIdeal.Hand.clsR (F := Ideal) X (ValueIdx.ix2 b t) := by
  rw [bcF_at]
  obtain ⟨i, hi, ei⟩ := Ker.win_spec (Cert.KernelIdeal.Hand.blk (F := Ideal) c X b) t
  obtain ⟨j, hj, ej⟩ := Ref.clsR_spec X b t
  rw [lane_blk] at hi
  have e : i = j := FirstMax.unique hi hj
  rw [ei, ej, e]

/-- The winners are not negative. -/
theorem bcF_nonneg (c : Dev Cert.KernelIdeal.nD) (X : FVec Ideal Cert.KernelIdeal.S128x512x1000 .f32) (i : Cert.KernelIdeal.S512x128.Idx) :
    0 ≤ (Cert.KernelIdeal.Hand.bcF (F := Ideal) c X i).toInt := by
  obtain ⟨t, b, rfl⟩ : ∃ (t : Fin 512) (b : Fin 128), i = ValueIdx.ix2 t b :=
    ⟨i 0, i 1, funext fun a => by match a with | ⟨0, _⟩ => rfl | ⟨1, _⟩ => rfl⟩
  rw [bcF_at]
  obtain ⟨k, -, e⟩ := Ker.win_spec (Cert.KernelIdeal.Hand.blk (F := Ideal) c X b) t
  rw [e, toInt_ofNat_small _ (by omega)]
  omega

/-- Compacting one sequence two ways gives one column. -/
theorem compact_agree {v v' o o' : ℕ → BitVec 32} (e : v = v') (h : Compact (keepAt v) v o) (h' : Compact (Ref.keepOf v') v' o')
    (p : ℕ) (hp : p < 512) : o p = o' p := by
  subst e
  exact Compact.unique h h' p hp

/-- What the kernel decodes is what the reference decodes. -/
theorem decode_eq (c : Dev Cert.KernelIdeal.nD) (X : FVec Ideal Cert.KernelIdeal.S128x512x1000 .f32) :
    Cert.KernelIdeal.Hand.dec (F := Ideal) (Cert.KernelIdeal.Hand.bcF (F := Ideal) c X)
      = Cert.ReferenceIdeal.Hand.decR (Cert.ReferenceIdeal.Hand.clsR (F := Ideal) X) := by
  funext i
  obtain ⟨b, p, rfl⟩ : ∃ (b : Fin 128) (p : Fin 512), i = ValueIdx.ix2 b p :=
    ⟨i 0, i 1, funext fun a => by match a with | ⟨0, _⟩ => rfl | ⟨1, _⟩ => rfl⟩
  have hv : col (Cert.KernelIdeal.Hand.bcF (F := Ideal) c X) b = Ref.row (Cert.ReferenceIdeal.Hand.clsR (F := Ideal) X) b := by
    funext t
    by_cases ht : t < 512
    · rw [col_lt _ b t ht, Ref.row_lt _ b t ht]
      exact bcF_cls c X b ⟨t, ht⟩
    · unfold col Ref.row
      rw [dif_neg ht, dif_neg ht]
  have h := compact_agree hv (dec_compact (F := Ideal) _ (bcF_nonneg c X) b) (Ref.decR_compact _ b) p.val p.isLt
  rw [Ref.row_lt _ b p.val p.isLt] at h
  unfold row at h
  rw [dif_pos p.isLt] at h
  exact h

end Cert.Value
-- ==== Proof.Value.Score.lean ====
/- The scores: per batch the kernel's lane is the reference's entry. -/
module

public import proofs.«01_k».proof.Proof.Value.Decode

@[expose] public section

noncomputable section

namespace Cert.Value

open Idealize.ShloMosaic Idealize.ShloMosaic.ValueIdx Cert.Value.Rows
open Cert.Value.Ref (eps bot_bits)

/-! ## The kernel's lanes -/

section Kernel
open Cert.KernelIdeal Cert.KernelIdeal.Gen Cert.KernelIdeal.Hand

/-- One trip's scores, read at a lane. -/
theorem pay14_gen {F : FTy → Type} [FloatOps F] (s : FVec F S1x128 .f32) (n : BitVec 32) (v : FVec F S512x1 .f32) (i : S1x128.Idx) :
    k0_pay14 s n v i = Scalar.select (BitVec.ofBool (iota .tc S1x128 32 [1] iota_S1x128_d1_w32 i == n))
      (Scalar.subf (FloatOps.ofBits .f32 0x00000000#32) (extractAt ![0, 0, 0] (shapeCast S1x1x1 (multiReduction .add [1, 2] S1 (shapeCast S1x512x1 v shapeCasts_S512x1_S1x512x1) 0x00000000#32 reduces_S1x512x1_S1 (.inl rfl) rfl) shapeCasts_S1_S1x1x1) inpos_S1x1x1_p0_0_0)) (s i) := rfl

/-- The sum over a column with a leading unit axis. -/
theorem sum_col (v : S512x1.Idx → EReal) :
    ∑ i : S1x512x1.Idx, shapeCast S1x512x1 v shapeCasts_S512x1_S1x512x1 i = ∑ t : Fin 512, v (Ker.at1 t) := by
  refine Finset.sum_nbij' (fun i => (i 1 : Fin 512)) (fun t => ValueIdx.ix3 (0 : Fin 1) t (0 : Fin 1)) ?_ ?_ ?_ ?_ ?_
  · intro i _; exact Finset.mem_univ _
  · intro i _; exact Finset.mem_univ _
  · intro i _
    funext a
    match a with
    | ⟨0, _⟩ => exact Subsingleton.elim (α := Fin 1) _ _
    | ⟨1, _⟩ => rfl
    | ⟨2, _⟩ => exact Subsingleton.elim (α := Fin 1) _ _
  · intro i _; rfl
  · intro i _
    have e : i = ValueIdx.ix3 (0 : Fin 1) (i 1 : Fin 512) (0 : Fin 1) := by
      funext a
      match a with
      | ⟨0, _⟩ => exact Subsingleton.elim (α := Fin 1) _ _
      | ⟨1, _⟩ => rfl
      | ⟨2, _⟩ => exact Subsingleton.elim (α := Fin 1) _ _
    exact (congrArg _ e).trans (Ker.cast_lead v _)

/-- The sum of a column, as the kernel takes it. -/
theorem total (v : FVec Ideal S512x1 .f32) :
    extractAt ![0, 0, 0] (shapeCast S1x1x1 (multiReduction .add [1, 2] S1 (shapeCast S1x512x1 v shapeCasts_S512x1_S1x512x1) 0x00000000#32 reduces_S1x512x1_S1 (.inl rfl) rfl) shapeCasts_S1_S1x1x1) inpos_S1x1x1_p0_0_0
      = ∑ t : Fin 512, v (Ker.at1 t) := by
  rw [Ker.extract_one]
  refine (Ideal.multiReduction_add_total (shapeCast S1x512x1 v shapeCasts_S512x1_S1x512x1) _ reduces_S1x512x1_S1 (fun b => ?_) (.inl rfl) rfl (ValueIdx.ix1 (0 : Fin 1))).trans (sum_col v)
  match b with
  | ⟨0, _⟩ => rfl

/-- The lane's number is the trip's exactly at that lane. -/
theorem lane_bit (b k : Fin 128) : (BitVec.ofBool (iota .tc S1x128 32 [1] iota_S1x128_d1_w32 (ValueIdx.ix2 (0 : Fin 1) b) == BitVec.ofNat 32 k.val) = 1#1) ↔ b = k := by
  have e : iota .tc S1x128 32 [1] iota_S1x128_d1_w32 (ValueIdx.ix2 (0 : Fin 1) b) = BitVec.ofNat 32 b.val := iota_single_apply _ _ _ _ _ _
  rw [e, Ref.ofBool_eq, beq_iff_eq]
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

/-- A batch's score: the greatest entries' logarithms summed and negated. -/
def score (X : FVec Ideal S128x512x1000 .f32) (c : Dev nD) (b : Fin 128) : EReal :=
  0 - ∑ t : Fin 512, lg eps (Ker.top (blk (F := Ideal) c X b) t)

/-- The scores after `k` trips: those of the first `k` batches. -/
theorem ssAt_at (c : Dev nD) (X : FVec Ideal S128x512x1000 .f32) (k : ℕ) (hk : k ≤ 128) (b : Fin 128) (hb : b.val < k) :
    ssAt (F := Ideal) c X k (ValueIdx.ix2 (0 : Fin 1) b) = score X c b := by
  induction k with
  | zero => omega
  | succ k ih =>
    have hk' : k < 128 := hk
    have hbk : (Ring.bk 128 k : Fin 128) = ⟨k, hk'⟩ := Fin.ext (Ring.bk_val hk')
    have es : ssAt (F := Ideal) c X (k + 1) = k0_pay14 (ssAt c X k) (Scf.iv 0#32 1#32 k) (k0_pay6 (blk c X (Ring.bk 128 k))) := rfl
    rw [es, pay14_gen, hbk, iv_eq ⟨k, hk'⟩]
    by_cases h : b = ⟨k, hk'⟩
    · rw [Ker.sel_one ((lane_bit b ⟨k, hk'⟩).2 h), total, Ideal.scalar_subf_def, Ker.zero_bits, ← h]
      unfold score
      exact congrArg (fun s => (0 : EReal) - s) (Finset.sum_congr rfl fun t _ => Ker.pay6_at _ t)
    · rw [Ker.sel_zero (fun e => h ((lane_bit b ⟨k, hk'⟩).1 e))]
      refine ih (by omega) ?_
      have : b.val ≠ k := fun e => h (Fin.ext e)
      omega
end Kernel

/-! ## The reference's entries -/

section Reference
open Cert.ReferenceIdeal Cert.ReferenceIdeal.Gen Cert.ReferenceIdeal.Hand

theorem reduces2 : S128x512.Reduces [1] S128 := by decide

/-- The place of a step within a batch. -/
theorem liftT (b : Fin 128) (t : Fin 512) : reduces2.lift (ValueIdx.ix1 b) t = ValueIdx.ix2 b t := by
  funext a
  match a with
  | ⟨0, _⟩ => exact Fin.ext rfl
  | ⟨1, _⟩ => exact Fin.ext rfl

/-- The reference's score, read at a batch. -/
theorem scoreR_gen {F : FTy → Type} [FloatOps F] (l : FVec F S128x512x1000 .f32) (b : Fin 128) :
    scoreR l (ValueIdx.ix2 b (0 : Fin 1)) = FloatOps.hostNegf (FloatOps.hostReduceAdd [1] reducesTo_S128x512_S128_d1 .single
      (Host.reduce FloatOps.maximumf l (constant S_ .f32 0xFF800000#32) reducesTo_S128x512x1000_S128x512_d2 h_S_) (FloatOps.ofBits .f32 0x00000000#32) (ValueIdx.ix1 b)) := by
  unfold scoreR
  refine congrArg FloatOps.hostNegf (congrArg (FloatOps.hostReduceAdd [1] reducesTo_S128x512_S128_d1 .single
      (Host.reduce FloatOps.maximumf l (constant S_ .f32 0xFF800000#32) reducesTo_S128x512x1000_S128x512_d2 h_S_) (FloatOps.ofBits .f32 0x00000000#32)) (funext fun a => ?_))
  match a with
  | ⟨0, _⟩ => rfl

/-- The greatest logarithm of a step. -/
theorem max_isTop (l : FVec Ideal S128x512x1000 .f32) (b : Fin 128) (t : Fin 512) :
    IsTop (fun c => l (ValueIdx.ix3 b t c))
      (Host.reduce (FloatOps.maximumf (F := Ideal) (φ := .f32)) l (constant (F := Ideal) S_ .f32 0xFF800000#32) reducesTo_S128x512x1000_S128x512_d2 h_S_ (ValueIdx.ix2 b t)) := by
  have hf : Host.reduce (FloatOps.maximumf (F := Ideal) (φ := .f32)) l (constant (F := Ideal) S_ .f32 0xFF800000#32) reducesTo_S128x512x1000_S128x512_d2 h_S_ (ValueIdx.ix2 b t)
      = (Finset.univ : Finset (Fin 1000)).fold max (FloatOps.ofBits (F := Ideal) .f32 0xFF800000#32) (l ∘ Ref.reduces3.lift (ValueIdx.ix2 b t)) :=
    Host.reduce_eq_fold_single (FloatOps.maximumf (F := Ideal) (φ := .f32)) l _ reducesTo_S128x512x1000_S128x512_d2 Ref.reduces3 h_S_ (ValueIdx.ix2 b t)
  rw [hf, bot_bits]
  have e : l ∘ Ref.reduces3.lift (ValueIdx.ix2 b t) = fun c : Fin 1000 => l (ValueIdx.ix3 b t c) :=
    funext fun c => congrArg l (Ref.lift3 b t c)
  rw [e]
  exact isTop_fold _

/-- The greatest logarithm of a step is the logarithm of its greatest entry. -/
theorem max_eq (c : Dev Cert.KernelIdeal.nD) (X : FVec Ideal S128x512x1000 .f32) (b : Fin 128) (t : Fin 512) :
    Host.reduce (FloatOps.maximumf (F := Ideal) (φ := .f32)) (lpR (F := Ideal) X) (constant (F := Ideal) S_ .f32 0xFF800000#32) reducesTo_S128x512x1000_S128x512_d2 h_S_ (ValueIdx.ix2 b t)
      = lg eps (Ker.top (Cert.KernelIdeal.Hand.blk (F := Ideal) c X b) t) := by
  have h1 := max_isTop (lpR (F := Ideal) X) b t
  have h2 := (Ker.top_isTop (Cert.KernelIdeal.Hand.blk (F := Ideal) c X b) t).lg eps
  rw [lane_blk] at h2
  have e : (fun k => lpR (F := Ideal) X (ValueIdx.ix3 b t k)) = fun k => lg eps (X (ValueIdx.ix3 b t k)) := funext fun k => Ref.lpR_apply X _
  rw [e] at h1
  exact IsTop.unique h1 h2

/-- The reference's score of a batch is the kernel's. -/
theorem scoreR_at (c : Dev Cert.KernelIdeal.nD) (X : FVec Ideal S128x512x1000 .f32) (b : Fin 128) :
    scoreR (F := Ideal) (lpR (F := Ideal) X) (ValueIdx.ix2 b (0 : Fin 1)) = score X c b := by
  rw [scoreR_gen, Ideal.hostNegf_def, Ideal.hostReduceAdd_def, Ideal.hostReduceAdd_single _ reduces2, Ker.zero_bits, zero_add]
  unfold score
  rw [zero_sub]
  refine congrArg (fun s : EReal => -s) (Finset.sum_congr rfl fun t _ => ?_)
  exact (congrArg _ (liftT b t)).trans (max_eq c X b t)
end Reference

end Cert.Value
-- ==== Proof.Value.Results.lean ====
/- The two programs' score columns agree entry by entry. -/
module

public import proofs.«01_k».proof.Proof.Value.Score

@[expose] public section

noncomputable section

namespace Cert.Value

open Idealize.ShloMosaic

/-- A row of 128 laid out as a column, read at an entry. -/
theorem column_at {α : Type} (v : Cert.KernelIdeal.S1x128.Idx → α) (h : Cert.KernelIdeal.S1x128.ShapeCasts Cert.KernelIdeal.S128x1) (b : Fin 128) :
    shapeCast Cert.KernelIdeal.S128x1 v h (ValueIdx.ix2 b (0 : Fin 1)) = v (ValueIdx.ix2 (0 : Fin 1) b) := by
  refine shapeCast_apply v h _ _ ?_
  rw [Shape.rowMajor_val_two, Shape.rowMajor_val_two]
  simp

/-- The kernel's scores as a column are the reference's. -/
theorem score_eq (c : Dev Cert.KernelIdeal.nD) (X : FVec Ideal Cert.KernelIdeal.S128x512x1000 .f32)
    (h : Cert.KernelIdeal.S1x128.ShapeCasts Cert.KernelIdeal.S128x1) :
    shapeCast Cert.KernelIdeal.S128x1 (Cert.KernelIdeal.Hand.ssAt (F := Ideal) c X 128) h
      = Cert.ReferenceIdeal.Hand.scoreR (F := Ideal) (Cert.ReferenceIdeal.Hand.lpR (F := Ideal) X) := by
  funext i
  obtain ⟨b, z, rfl⟩ : ∃ (b : Fin 128) (z : Fin 1), i = ValueIdx.ix2 b z := ⟨i 0, i 1, by funext a; fin_cases a <;> rfl⟩
  obtain rfl : z = 0 := Subsingleton.elim _ _
  exact (column_at _ h b).trans ((ssAt_at c X 128 le_rfl b b.isLt).trans (scoreR_at c X b).symm)

end Cert.Value

end
-- ==== Proof.lean ====
/- The claims, assembled: the two kernel programs' runs, the reference's run, and the equation of their results. -/
module

public import proofs.«01_k».proof.Defs
public import proofs.«01_k».proof.Proof.Kernel.Run
public import proofs.«01_k».proof.Proof.KernelIdeal.Run
public import proofs.«01_k».proof.Proof.Reference.Run
public import proofs.«01_k».proof.Proof.KernelIdeal.Values
public import proofs.«01_k».proof.Proof.Value.Results
public import Idealize.ShloMosaic.Adequacy
public import Idealize.ShloMosaic.Init

@[expose] public section

noncomputable section

namespace Cert.Proof

open Idealize.ShloMosaic Idealize.SL.Sem

/-- The reference's frame: its argument ends as launched, the semaphores at zero. -/
theorem reference_frame [Cert.ReferenceIdeal.Facts] : Cert.quiescent_ReferenceIdeal := fun m g _ =>
  (θ_run Cert.ReferenceIdeal.defs _ _).mono (fun _ h => ⟨fun c => (h.1 c).2.2, h.2⟩) (Cert.ReferenceIdeal.Hand.run_main m g)

/-- The value claim: on equal arguments the idealized kernel and the reference end with the same decoded rows and the
    same scores, both arguments unchanged. -/
theorem values [Cert.KernelIdeal.Facts] [Cert.ReferenceIdeal.Facts] : Cert.algebraic_KernelIdeal_ReferenceIdeal :=
  fun m g m' g' _ e => ⟨
    fun c => Cert.ReferenceIdeal.Hand.decR (Cert.ReferenceIdeal.Hand.clsR (F := Ideal) (m ((c.tc : Thread Cert.KernelIdeal.nD Cert.KernelIdeal.τ).loc Cert.KernelIdeal.main_arg0))),
    fun c => Cert.ReferenceIdeal.Hand.scoreR (F := Ideal) (Cert.ReferenceIdeal.Hand.lpR (F := Ideal) (m ((c.tc : Thread Cert.KernelIdeal.nD Cert.KernelIdeal.τ).loc Cert.KernelIdeal.main_arg0))),
    (θ_run Cert.KernelIdeal.defs _ _).mono (fun _ h c =>
      ⟨(h c).1.trans (Cert.Value.decode_eq c _), (h c).2.1.trans (Cert.Value.score_eq c _ _), (h c).2.2⟩)
      (Cert.KernelIdeal.Hand.run_values m g),
    (θ_run Cert.ReferenceIdeal.defs _ _).mono (fun _ h c =>
      ⟨(h.1 c).1.trans (congrArg (fun X => Cert.ReferenceIdeal.Hand.decR (Cert.ReferenceIdeal.Hand.clsR (F := Ideal) X)) (e c)),
       (h.1 c).2.1.trans (congrArg (fun X => Cert.ReferenceIdeal.Hand.scoreR (F := Ideal) (Cert.ReferenceIdeal.Hand.lpR (F := Ideal) X)) (e c)),
       (h.1 c).2.2⟩)
      (Cert.ReferenceIdeal.Hand.run_main m' g')⟩

theorem claim : Cert.Claim := ⟨Cert.Kernel.Gen.facts, Cert.KernelIdeal.Gen.facts, Cert.ReferenceIdeal.Gen.facts,
  fun m g _ => Cert.Kernel.Hand.frame_run m g,
  fun m g _ => Cert.KernelIdeal.Hand.frame_run m g,
  reference_frame, trivial, values⟩

end Cert.Proof

end
